-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x1024 : Shape := ⟨3, ![16, 2048, 1024]⟩
abbrev S1024x32 : Shape := ⟨2, ![1024, 32]⟩
abbrev S32 : Shape := ⟨1, ![32]⟩
abbrev S32x1024 : Shape := ⟨2, ![32, 1024]⟩
abbrev S1024 : Shape := ⟨1, ![1024]⟩
abbrev S2048x1024 : Shape := ⟨2, ![2048, 1024]⟩
abbrev S_ : Shape := ⟨0, ![]⟩
abbrev S1024x1024 : Shape := ⟨2, ![1024, 1024]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_
  bcast_S_S32x1024 : S_.BroadcastsInDim S32x1024 (![] : Fin 0 → Fin S32x1024.rank)
  reducesTo_S32x1024_S_d0_1 : S32x1024.ReducesTo [0, 1] S_
  slices_S2048x1024_S1024x1024_1024_0 : S2048x1024.Slices ![1024, 0] S1024x1024
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg9 : FVec F S2048x1024 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S1024x1024 .f32 := (extractStridedSlice S1024x1024 ![1024, 0] · slices_S2048x1024_S1024x1024_1024_0) main_arg9
  let main_v20 : FVec F S1024x1024 .f32 := Host.absf main_v19
  let main_cst_6 : FVec F S_ .f32 := constant S_ .f32 0x7F800000#32
  let main_v21 : FVec F S1024x1024 .f32 := broadcastInDim S1024x1024 ![] bcast_S_S1024x1024 main_cst_6
  let main_v22 : IVec S1024x1024 1 := cmpf .olt main_v20 main_v21
  let main_c_7 : IVec S_ 1 := constantI S_ 1 1#1
  let main_v23 : IVec S_ 1 := (fun x v => Host.reduce IntOp.andi x v reducesTo_S1024x1024_S_d0_1 h_S_) main_v22 main_c_7
  let main_v24 : IVec S_ 1 := andi main_v18 main_v23
  main_v24

def fn {F : FTy → Type} [FloatOps F] (main_arg0 : FVec F S16x2048x1024 .f32) (main_arg1 : FVec F S1024x32 .f32) (main_arg2 : FVec F S32 .f32) (main_arg3 : FVec F S1024x32 .f32) (main_arg4 : FVec F S32 .f32) (main_arg5 : FVec F S1024x32 .f32) (main_arg6 : FVec F S32 .f32) (main_arg7 : FVec F S32x1024 .f32) (main_arg8 : FVec F S1024 .f32) (main_arg9 : FVec F S2048x1024 .f32) (main_arg10 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x32 .f32 := Host.absf main_arg5
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  let main_v9 : FVec F S32 .f32 := Host.absf main_arg6
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1024 .f32 := Host.absf main_arg7
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg9 main_v13 main_v16
-- ==== Kernel.lean ====
abbrev S16x2048x1024 : Shape := ⟨3, ![16, 2048, 1024]⟩
abbrev S1024x32 : Shape := ⟨2, ![1024, 32]⟩
abbrev S32 : Shape := ⟨1, ![32]⟩
abbrev S32x1024 : Shape := ⟨2, ![32, 1024]⟩
abbrev S1024 : Shape := ⟨1, ![1024]⟩
abbrev S2048x1024 : Shape := ⟨2, ![2048, 1024]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S2x1024 : Shape := ⟨2, ![2, 1024]⟩
abbrev S1x1024x1024 : Shape := ⟨3, ![1, 1024, 1024]⟩
abbrev S1024x1024 : Shape := ⟨2, ![1024, 1024]⟩
abbrev S32x128 : Shape := ⟨2, ![32, 128]⟩
abbrev S128x1024 : Shape := ⟨2, ![128, 1024]⟩
abbrev S32x1 : Shape := ⟨2, ![32, 1]⟩
abbrev S32x1023 : Shape := ⟨2, ![32, 1023]⟩
abbrev S32x2 : Shape := ⟨2, ![32, 2]⟩
abbrev S32x1022 : Shape := ⟨2, ![32, 1022]⟩
abbrev S32x3 : Shape := ⟨2, ![32, 3]⟩
abbrev S32x1021 : Shape := ⟨2, ![32, 1021]⟩
abbrev S32x4 : Shape := ⟨2, ![32, 4]⟩
abbrev S32x1020 : Shape := ⟨2, ![32, 1020]⟩
abbrev S32x8 : Shape := ⟨2, ![32, 8]⟩
abbrev S32x1016 : Shape := ⟨2, ![32, 1016]⟩
abbrev S32x12 : Shape := ⟨2, ![32, 12]⟩
abbrev S32x1012 : Shape := ⟨2, ![32, 1012]⟩
abbrev S32x16 : Shape := ⟨2, ![32, 16]⟩
abbrev S32x1008 : Shape := ⟨2, ![32, 1008]⟩
abbrev S32x32 : Shape := ⟨2, ![32, 32]⟩
abbrev S32x992 : Shape := ⟨2, ![32, 992]⟩
abbrev S32x48 : Shape := ⟨2, ![32, 48]⟩
abbrev S32x976 : Shape := ⟨2, ![32, 976]⟩
abbrev S32x64 : Shape := ⟨2, ![32, 64]⟩
abbrev S32x960 : Shape := ⟨2, ![32, 960]⟩
abbrev S32x896 : Shape := ⟨2, ![32, 896]⟩
abbrev S32x192 : Shape := ⟨2, ![32, 192]⟩
abbrev S32x832 : Shape := ⟨2, ![32, 832]⟩
abbrev S32x256 : Shape := ⟨2, ![32, 256]⟩
abbrev S32x768 : Shape := ⟨2, ![32, 768]⟩
abbrev S32x512 : Shape := ⟨2, ![32, 512]⟩

abbrev nBuf : Space → Nat
  | .hbm => 23
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S1024x32, .f32⟩
  | .hbm, ⟨2, _⟩ => ⟨S32, .f32⟩
  | .hbm, ⟨3, _⟩ => ⟨S1024x32, .f32⟩
  | .hbm, ⟨4, _⟩ => ⟨S32, .f32⟩
  | .hbm, ⟨5, _⟩ => ⟨S1024x32, .f32⟩
  | .hbm, ⟨6, _⟩ => ⟨S32, .f32⟩
  | .hbm, ⟨7, _⟩ => ⟨S32x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S_, .f32⟩
  | .hbm, ⟨12, _⟩ => ⟨S1024x32, .f32⟩
  | .hbm, ⟨13, _⟩ => ⟨S1024x128, .f32⟩
  | .hbm, ⟨14, _⟩ => ⟨S1024x128, .bf16⟩
  | .hbm, ⟨15, _⟩ => ⟨S_, .f32⟩
  | .hbm, ⟨16, _⟩ => ⟨S32, .f32⟩
  | .hbm, ⟨17, _⟩ => ⟨S128, .f32⟩
  | .hbm, ⟨18, _⟩ => ⟨S1x128, .f32⟩
  | .hbm, ⟨19, _⟩ => ⟨S1x1024, .f32⟩
  | .hbm, ⟨20, _⟩ => ⟨S1x1024, .f32⟩
  | .hbm, ⟨21, _⟩ => ⟨S2x1024, .f32⟩
  | .hbm, ⟨22, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .bf16⟩
  | .local _ .vmem, ⟨3, _⟩ => ⟨S1x128, .f32⟩
  | .local _ .vmem, ⟨4, _⟩ => ⟨S1024x1024, .f32⟩
  | .local _ .vmem, ⟨5, _⟩ => ⟨S1024x1024, .f32⟩
  | .local _ .vmem, ⟨6, _⟩ => ⟨S32x1024, .f32⟩
  | .local _ .vmem, ⟨7, _⟩ => ⟨S2x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S32x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst_0 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x2048x1024 : Shape := ⟨3, ![16, 2048, 1024]⟩
abbrev S1024x32 : Shape := ⟨2, ![1024, 32]⟩
abbrev S32 : Shape := ⟨1, ![32]⟩
abbrev S32x1024 : Shape := ⟨2, ![32, 1024]⟩
abbrev S1024 : Shape := ⟨1, ![1024]⟩
abbrev S2048x1024 : Shape := ⟨2, ![2048, 1024]⟩
abbrev S16x2048x32 : Shape := ⟨3, ![16, 2048, 32]⟩
abbrev S1x1x32 : Shape := ⟨3, ![1, 1, 32]⟩
abbrev S_ : Shape := ⟨0, ![]⟩
abbrev S2048x16x32 : Shape := ⟨3, ![2048, 16, 32]⟩
abbrev S16x32 : Shape := ⟨2, ![16, 32]⟩
abbrev S1x16x32 : Shape := ⟨3, ![1, 16, 32]⟩
abbrev S1024x2048x16 : Shape := ⟨3, ![1024, 2048, 16]⟩
abbrev S1x1x1024 : Shape := ⟨3, ![1, 1, 1024]⟩
abbrev S1024x1024 : Shape := ⟨2, ![1024, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x32, .f32⟩
  | .hbm, ⟨2, _⟩ => ⟨S32, .f32⟩
  | .hbm, ⟨3, _⟩ => ⟨S1024x32, .f32⟩
  | .hbm, ⟨4, _⟩ => ⟨S32, .f32⟩
  | .hbm, ⟨5, _⟩ => ⟨S1024x32, .f32⟩
  | .hbm, ⟨6, _⟩ => ⟨S32, .f32⟩
  | .hbm, ⟨7, _⟩ => ⟨S32x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S16x2048x32, .f32⟩
  | .hbm, ⟨12, _⟩ => ⟨S1x1x32, .f32⟩
  | .hbm, ⟨13, _⟩ => ⟨S16x2048x32, .f32⟩
  | .hbm, ⟨14, _⟩ => ⟨S16x2048x32, .f32⟩
  | .hbm, ⟨15, _⟩ => ⟨S16x2048x32, .f32⟩
  | .hbm, ⟨16, _⟩ => ⟨S16x2048x32, .f32⟩
  | .hbm, ⟨17, _⟩ => ⟨S_, .f32⟩
  | .hbm, ⟨18, _⟩ => ⟨S16x2048x32, .f32⟩
  | .hbm, ⟨19, _⟩ => ⟨S16x2048x32, .f32⟩
  | .hbm, ⟨20, _⟩ => ⟨S_, .f32⟩
  | .hbm, ⟨21, _⟩ => ⟨S16x2048x32, .f32⟩
  | .hbm, ⟨22, _⟩ => ⟨S16x2048x32, .f32⟩
  | .hbm, ⟨23, _⟩ => ⟨S16x2048x32, .f32⟩
  | .hbm, ⟨24, _⟩ => ⟨S1x1x32, .f32⟩
  | .hbm, ⟨25, _⟩ => ⟨S16x2048x32, .f32⟩
  | .hbm, ⟨26, _⟩ => ⟨S16x2048x32, .f32⟩
  | .hbm, ⟨27, _⟩ => ⟨S16x2048x32, .f32⟩
  | .hbm, ⟨28, _⟩ => ⟨S16x2048x32, .f32⟩
  | .hbm, ⟨29, _⟩ => ⟨S_, .f32⟩
  | .hbm, ⟨30, _⟩ => ⟨S16x2048x32, .f32⟩
  | .hbm, ⟨31, _⟩ => ⟨S16x2048x32, .f32⟩
  | .hbm, ⟨32, _⟩ => ⟨S_, .f32⟩
  | .hbm, ⟨33, _⟩ => ⟨S16x2048x32, .f32⟩
  | .hbm, ⟨34, _⟩ => ⟨S16x2048x32, .f32⟩
  | .hbm, ⟨35, _⟩ => ⟨S16x2048x32, .f32⟩
  | .hbm, ⟨36, _⟩ => ⟨S1x1x32, .f32⟩
  | .hbm, ⟨37, _⟩ => ⟨S16x2048x32, .f32⟩
  | .hbm, ⟨38, _⟩ => ⟨S16x2048x32, .f32⟩
  | .hbm, ⟨39, _⟩ => ⟨S2048x16x32, .f32⟩
  | .hbm, ⟨40, _⟩ => ⟨S2048x16x32, .f32⟩
  | .hbm, ⟨41, _⟩ => ⟨S2048x16x32, .f32⟩
  | .hbm, ⟨42, _⟩ => ⟨S_, .f32⟩
  | .hbm, ⟨43, _⟩ => ⟨S16x32, .f32⟩
  | .hbm, ⟨44, _⟩ => ⟨S_, .f32⟩
  | .hbm, ⟨45, _⟩ => ⟨S2048x16x32, .f32⟩
  | .hbm, ⟨46, _⟩ => ⟨S_, .i32⟩
  | .hbm, ⟨47, _⟩ => ⟨S2048x16x32, .f32⟩
  | .hbm, ⟨48, _⟩ => ⟨S2048x16x32, .f32⟩
  | .hbm, ⟨49, _⟩ => ⟨S2048x16x32, .f32⟩
  | .hbm, ⟨50, _⟩ => ⟨S_, .i32⟩
  | .hbm, ⟨51, _⟩ => ⟨S16x32, .f32⟩
  | .hbm, ⟨52, _⟩ => ⟨S2048x16x32, .f32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S1x16x32, .f32⟩
  | .hbm, ⟨58, _⟩ => ⟨S16x32, .f32⟩
  | .hbm, ⟨59, _⟩ => ⟨S_, .i32⟩
  | .hbm, ⟨60, _⟩ => ⟨S_, .i32⟩
  | .hbm, ⟨61, _⟩ => ⟨S1x16x32, .f32⟩
  | .hbm, ⟨62, _⟩ => ⟨S16x32, .f32⟩
  | .hbm, ⟨63, _⟩ => ⟨S_, .i32⟩
  | .hbm, ⟨64, _⟩ => ⟨S_, .i32⟩
  | .hbm, ⟨65, _⟩ => ⟨S1x16x32, .f32⟩
  | .hbm, ⟨66, _⟩ => ⟨S16x32, .f32⟩
  | .hbm, ⟨67, _⟩ => ⟨S16x32, .f32⟩
  | .hbm, ⟨68, _⟩ => ⟨S_, .f32⟩
  | .hbm, ⟨69, _⟩ => ⟨S16x32, .f32⟩
  | .hbm, ⟨70, _⟩ => ⟨S16x32, .f32⟩
  | .hbm, ⟨71, _⟩ => ⟨S16x32, .f32⟩
  | .hbm, ⟨72, _⟩ => ⟨S16x32, .f32⟩
  | .hbm, ⟨73, _⟩ => ⟨S16x32, .f32⟩
  | .hbm, ⟨74, _⟩ => ⟨S1x16x32, .f32⟩
  | .hbm, ⟨75, _⟩ => ⟨S_, .i32⟩
  | .hbm, ⟨76, _⟩ => ⟨S_, .i32⟩
  | .hbm, ⟨77, _⟩ => ⟨S2048x16x32, .f32⟩
  | .hbm, ⟨78, _⟩ => ⟨S_, .i32⟩
  | .hbm, ⟨79, _⟩ => ⟨S_, .i32⟩
  | .hbm, ⟨80, _⟩ => ⟨S1024x2048x16, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S1024x1024, .f32⟩
  | .hbm, ⟨86, _⟩ => ⟨S16x2048x1024, .f32⟩
  | .hbm, ⟨87, _⟩ => ⟨S1024x1024, .f32⟩
  | .hbm, ⟨88, _⟩ => ⟨S16x2048x1024, .f32⟩
  | .hbm, ⟨89, _⟩ => ⟨S16x2048x1024, .f32⟩
  | .hbm, ⟨90, _⟩ => ⟨S1x1x1024, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_c : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v29_3 : Ref sig .tc := ⟨.hbm, 50, rfl⟩
abbrev main_v29_4 : Ref sig .tc := ⟨.hbm, 51, rfl⟩
abbrev main_v29_5 : Ref sig .tc := ⟨.hbm, 52, rfl⟩
abbrev main_while0c_c_10 : Ref sig .tc := ⟨.hbm, 53, rfl⟩
abbrev main_while0c_v44 : Ref sig .tc := ⟨.hbm, 54, rfl⟩
abbrev main_while0b_call0_c : Ref sig .tc := ⟨.hbm, 55, rfl⟩
abbrev main_while0b_call0_c_0 : Ref sig .tc := ⟨.hbm, 56, rfl⟩
abbrev main_while0b_call0_v0 : Ref sig .tc := ⟨.hbm, 57, rfl⟩
abbrev main_while0b_v44 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_v0 : Ref sig .tc := ⟨.hbm, 61, rfl⟩
abbrev main_while0b_v45 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_v0 : Ref sig .tc := ⟨.hbm, 65, rfl⟩
abbrev main_while0b_v46 : Ref sig .tc := ⟨.hbm, 66, rfl⟩
abbrev main_while0b_v47 : Ref sig .tc := ⟨.hbm, 67, rfl⟩
abbrev main_while0b_cst_10 : Ref sig .tc := ⟨.hbm, 68, rfl⟩
abbrev main_while0b_v48 : Ref sig .tc := ⟨.hbm, 69, rfl⟩
abbrev main_while0b_v49 : Ref sig .tc := ⟨.hbm, 70, rfl⟩
abbrev main_while0b_v50 : Ref sig .tc := ⟨.hbm, 71, rfl⟩
abbrev main_while0b_v51 : Ref sig .tc := ⟨.hbm, 72, rfl⟩
abbrev main_while0b_v52 : Ref sig .tc := ⟨.hbm, 73, rfl⟩
abbrev main_while0b_call3_v0 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_v53 : Ref sig .tc := ⟨.hbm, 77, rfl⟩
abbrev main_while0b_c_11 : Ref sig .tc := ⟨.hbm, 78, rfl⟩
abbrev main_while0b_v54 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩

abbrev nD : Nat := 1
abbrev τ : Topo := Topo.v7x

variable {F : FTy → Type} [FloatOps F]

abbrev main_while0_count : Scf.Loop 32 := ⟨0#32, 2048#32, 1#32⟩
-- ==== Proof.Scan.lean ====
/-
  The recurrence `z ↦ a t * z + b t` over the extended reals, and the radix-4 scan that computes its prefixes: a pair of
  rows `(A, B)` stands for the affine maps `z ↦ A t * z + B t`; a round joins four such maps, `K` steps apart, into one
  that spans four times as many steps.
-/
module

public import Mathlib.Data.EReal.Inv

@[expose] public section

noncomputable section

namespace Cert.Scan

/-- `n` steps of the recurrence from step `lo`, started at `z`. -/
def adv (a b : ℕ → EReal) (lo : ℕ) : ℕ → EReal → EReal
  | 0, z => z
  | n + 1, z => a (lo + n) * adv a b lo n z + b (lo + n)

variable (a b : ℕ → EReal)

/-- `n + k` steps are `n` steps and then `k` more. -/
theorem adv_add (lo n k : ℕ) (z : EReal) : adv a b lo (n + k) z = adv a b (lo + n) k (adv a b lo n z) := by
  induction k with
  | zero => rfl
  | succ k ih =>
    show a (lo + (n + k)) * adv a b lo (n + k) z + b (lo + (n + k)) = _
    rw [ih, ← Nat.add_assoc]
    rfl

/-- The recurrence depends only on the coefficients of the steps taken. -/
theorem adv_congr {a b a' b' : ℕ → EReal} (lo lo' : ℕ) (z : EReal) : ∀ n, (∀ i < n, a (lo + i) = a' (lo' + i)) →
    (∀ i < n, b (lo + i) = b' (lo' + i)) → adv a b lo n z = adv a' b' lo' n z
  | 0, _, _ => rfl
  | n + 1, ha, hb => by
    show a (lo + n) * adv a b lo n z + b (lo + n) = a' (lo' + n) * adv a' b' lo' n z + b' (lo' + n)
    rw [ha n (Nat.lt_succ_self n), hb n (Nat.lt_succ_self n),
      adv_congr lo lo' z n (fun i hi => ha i (Nat.lt_succ_of_lt hi)) fun i hi => hb i (Nat.lt_succ_of_lt hi)]

/-- The last `K` steps up to and including step `t`, or all of them when there are fewer. -/
def win (K t : ℕ) (z : EReal) : EReal := adv a b (t + 1 - K) (min K (t + 1)) z

/-- The window that ends `k` steps before step `t`; no step at all when that is before step 0. -/
def winAt (K k t : ℕ) (z : EReal) : EReal := if t < k then z else win a b K (t - k) z

/-- A window of `K + L` steps is one of `L` steps, `K` steps earlier, and then one of `K`. -/
theorem win_add (K L t : ℕ) (z : EReal) : win a b (K + L) t z = win a b K t (winAt a b L K t z) := by
  unfold winAt win
  by_cases h : t < K
  · rw [if_pos h, show t + 1 - (K + L) = 0 by omega, show t + 1 - K = 0 by omega, show min (K + L) (t + 1) = t + 1 by omega,
      show min K (t + 1) = t + 1 by omega]
  · rw [if_neg h, show min (K + L) (t + 1) = min L (t - K + 1) + K by omega, adv_add, show min K (t + 1) = K by omega,
      show t + 1 - (K + L) + min L (t - K + 1) = t + 1 - K by omega, show t + 1 - (K + L) = t - K + 1 - L by omega]

/-- The same for a window that ends `k` steps earlier. -/
theorem winAt_add (K L k t : ℕ) (z : EReal) : winAt a b (K + L) k t z = winAt a b K k t (winAt a b L (k + K) t z) := by
  unfold winAt
  by_cases h : t < k
  · rw [if_pos h, if_pos h, if_pos (by omega)]
  · rw [if_neg h, if_neg h, win_add]
    unfold winAt
    by_cases h' : t - k < K
    · rw [if_pos h', if_pos (by omega)]
    · rw [if_neg h', if_neg (by omega), Nat.sub_sub]

/-- A window of `4 * K` steps is four windows of `K`. -/
theorem win_four (K t : ℕ) (z : EReal) :
    win a b (4 * K) t z = win a b K t (winAt a b K K t (winAt a b K (2 * K) t (winAt a b K (3 * K) t z))) := by
  rw [show 4 * K = K + (K + (K + K)) by omega, win_add, winAt_add, winAt_add, show K + K = 2 * K by omega,
    show 2 * K + K = 3 * K by omega]

/-- A row moved right by `k` places, `f` moved in from the left. -/
def sh (k : ℕ) (f : EReal) (X : Fin 1024 → EReal) : Fin 1024 → EReal := fun t =>
  if t.val < k then f else X ⟨t.val - k, by omega⟩

/-- The rows `(A, B)` hold the affine maps of the windows of `K` steps. -/
def IsWin (K : ℕ) (A B : Fin 1024 → EReal) : Prop :=
  ∀ t : Fin 1024, 0 ≤ A t ∧ A t ≠ ⊤ ∧ ∀ z, A t * z + B t = win a b K t z

/-- The rows of the steps themselves hold the windows of one step. -/
theorem isWin_one (A B : Fin 1024 → EReal) (hA : ∀ t : Fin 1024, A t = a t) (hB : ∀ t : Fin 1024, B t = b t)
    (h0 : ∀ t : Fin 1024, 0 ≤ A t ∧ A t ≠ ⊤) : IsWin a b 1 A B := by
  intro t
  refine ⟨(h0 t).1, (h0 t).2, fun z => ?_⟩
  unfold win
  rw [hA, hB, Nat.add_sub_cancel, show min 1 (t.val + 1) = 0 + 1 by omega]
  rfl

/-- Rows moved right hold the windows that end earlier, 1 and 0 moved in standing for no step. -/
theorem isWin_sh {K : ℕ} {A B : Fin 1024 → EReal} (h : IsWin a b K A B) (k : ℕ) (t : Fin 1024) :
    0 ≤ sh k 1 A t ∧ sh k 1 A t ≠ ⊤ ∧ ∀ z, sh k 1 A t * z + sh k 0 B t = winAt a b K k t z := by
  unfold sh winAt
  by_cases hk : t.val < k
  · simp only [if_pos hk]
    exact ⟨zero_le_one, EReal.coe_ne_top 1, fun z => by rw [one_mul, add_zero]⟩
  · simp only [if_neg hk]
    exact h ⟨t.val - k, by omega⟩

/-- A product of two nonnegative numbers below infinity is below infinity. -/
theorem mul_ne_top' {x y : EReal} (hx : 0 ≤ x) (hx' : x ≠ ⊤) (hy : 0 ≤ y) (hy' : y ≠ ⊤) : x * y ≠ ⊤ := by
  lift x to ℝ using ⟨hx', fun h => by simp [h] at hx⟩
  lift y to ℝ using ⟨hy', fun h => by simp [h] at hy⟩
  rw [← EReal.coe_mul]
  exact EReal.coe_ne_top _

/-- Four affine maps, one after the other, as one affine map. -/
theorem four_maps (z : EReal) {u u1 u2 : EReal} (p : 0 ≤ u) (q : u ≠ ⊤) (p1 : 0 ≤ u1) (q1 : u1 ≠ ⊤) (p2 : 0 ≤ u2)
    (q2 : u2 ≠ ⊤) (u3 v v1 v2 v3 : EReal) :
    u * (u1 * (u2 * u3)) * z + (v + u * (v1 + u1 * (v2 + u2 * v3)))
      = u * (u1 * (u2 * (u3 * z + v3) + v2) + v1) + v := by
  simp only [EReal.left_distrib_of_nonneg_of_ne_top p q, EReal.left_distrib_of_nonneg_of_ne_top p1 q1,
    EReal.left_distrib_of_nonneg_of_ne_top p2 q2, mul_assoc]
  generalize u * (u1 * (u2 * (u3 * z))) = e1
  generalize u * (u1 * (u2 * v3)) = e2
  generalize u * (u1 * v2) = e3
  generalize u * v1 = e4
  ac_rfl

/-- A round's first row. -/
def rA (K : ℕ) (A : Fin 1024 → EReal) : Fin 1024 → EReal := fun t =>
  A t * (sh K 1 A t * (sh (2 * K) 1 A t * sh (3 * K) 1 A t))

/-- A round's second row. -/
def rB (K : ℕ) (A B : Fin 1024 → EReal) : Fin 1024 → EReal := fun t =>
  B t + A t * (sh K 0 B t + sh K 1 A t * (sh (2 * K) 0 B t + sh (2 * K) 1 A t * sh (3 * K) 0 B t))

/-- A round makes windows of `4 * K` steps out of windows of `K`. -/
theorem isWin_round {K : ℕ} {A B : Fin 1024 → EReal} (h : IsWin a b K A B) : IsWin a b (4 * K) (rA K A) (rB K A B) := by
  intro t
  obtain ⟨p0, q0, w0⟩ := h t
  obtain ⟨p1, q1, w1⟩ := isWin_sh a b h K t
  obtain ⟨p2, q2, w2⟩ := isWin_sh a b h (2 * K) t
  obtain ⟨p3, q3, w3⟩ := isWin_sh a b h (3 * K) t
  have p23 := mul_nonneg p2 p3
  have q23 := mul_ne_top' p2 q2 p3 q3
  have p123 := mul_nonneg p1 p23
  have q123 := mul_ne_top' p1 q1 p23 q23
  unfold rA rB
  refine ⟨mul_nonneg p0 p123, mul_ne_top' p0 q0 p123 q123, fun z => ?_⟩
  rw [win_four, ← w3, ← w2, ← w1, ← w0]
  exact four_maps z p0 q0 p1 q1 p2 q2 _ _ _ _ _

/-- The five rounds' first row, from windows of one step to windows of 1024. -/
def allA (A : Fin 1024 → EReal) : Fin 1024 → EReal := rA 256 (rA 64 (rA 16 (rA 4 (rA 1 A))))

/-- The five rounds' second row. -/
def allB (A B : Fin 1024 → EReal) : Fin 1024 → EReal :=
  rB 256 (rA 64 (rA 16 (rA 4 (rA 1 A)))) (rB 64 (rA 16 (rA 4 (rA 1 A))) (rB 16 (rA 4 (rA 1 A)) (rB 4 (rA 1 A) (rB 1 A B))))

/-- After five rounds the rows hold, at every step, all the steps so far. -/
theorem isWin_all {A B : Fin 1024 → EReal} (h : IsWin a b 1 A B) : IsWin a b 1024 (allA A) (allB A B) :=
  isWin_round a b (isWin_round a b (isWin_round a b (isWin_round a b (isWin_round a b h))))

/-- The state after step `t` of the tile. -/
theorem all_after {A B : Fin 1024 → EReal} (h : IsWin a b 1 A B) (t : Fin 1024) (z : EReal) :
    allA A t * z + allB A B t = adv a b 0 (t.val + 1) z := by
  rw [(isWin_all a b h t).2.2 z]
  unfold win
  rw [show t.val + 1 - 1024 = 0 by omega, show min 1024 (t.val + 1) = t.val + 1 by omega]

/-- The state before step `t` of the tile: the rows moved right by one. -/
theorem all_before {A B : Fin 1024 → EReal} (h : IsWin a b 1 A B) (t : Fin 1024) (z : EReal) :
    sh 1 1 (allA A) t * z + sh 1 0 (allB A B) t = adv a b 0 t.val z := by
  rw [(isWin_sh a b (isWin_all a b h) 1 t).2.2 z]
  unfold winAt win
  by_cases ht : t.val < 1
  · rw [if_pos ht, show t.val = 0 by omega]; rfl
  · rw [if_neg ht, show t.val - 1 + 1 - 1024 = 0 by omega, show min 1024 (t.val - 1 + 1) = t.val by omega]

/-- The state stays finite while the coefficients are. -/
theorem adv_real (lo : ℕ) (z : EReal) (hz : ∃ r : ℝ, z = r) (n : ℕ) (ha : ∀ i < n, ∃ r : ℝ, a (lo + i) = r)
    (hb : ∀ i < n, ∃ r : ℝ, b (lo + i) = r) : ∃ r : ℝ, adv a b lo n z = r := by
  induction n with
  | zero => exact hz
  | succ n ih =>
    obtain ⟨r, hr⟩ := ih (fun i hi => ha i (by omega)) fun i hi => hb i (by omega)
    obtain ⟨u, hu⟩ := ha n (by omega)
    obtain ⟨v, hv⟩ := hb n (by omega)
    refine ⟨u * r + v, ?_⟩
    show a (lo + n) * adv a b lo n z + b (lo + n) = _
    rw [hr, hu, hv, EReal.coe_add, EReal.coe_mul]

end Cert.Scan

end
-- ==== Proof.Spec.lean ====
/-
  The mathematics of the layer, over the extended reals: the three linear maps, the two gates, the memory as a
  recurrence over the sequence, and the result before its hyperbolic tangent, once in the reference's order and once in
  the order of the kernel, which multiplies the two last weights with each other first.
-/
module

public import proofs.«01_k».proof.Proof.Scan
public import Idealize.ShloMosaic.Lib.Pointwise

@[expose] public section

noncomputable section

namespace Cert.Spec

open Idealize.ShloMosaic Cert.Scan

/-- A vector, a matrix and a box of extended reals. -/
abbrev Vc (n : ℕ) : Type := (⟨1, ![n]⟩ : Shape).Idx → EReal
abbrev Mt (n k : ℕ) : Type := (⟨2, ![n, k]⟩ : Shape).Idx → EReal
abbrev Bx (n k l : ℕ) : Type := (⟨3, ![n, k, l]⟩ : Shape).Idx → EReal

/-- One of the three linear maps: entry `m` for step `s` of sequence `b`. -/
def lin (x : Bx 16 2048 1024) (W : Mt 1024 32) (d : Vc 32) (b : Fin 16) (s : Fin 2048) (m : Fin 32) : EReal :=
  ∑ k : Fin 1024, x (ix3 b s k) * W (ix2 k m) + d (ix1 m)

/-- A gate: the logistic function of a linear map. -/
def gate (x : Bx 16 2048 1024) (W : Mt 1024 32) (d : Vc 32) (b : Fin 16) (s : Fin 2048) (m : Fin 32) : EReal :=
  Ideal.logistic (lin x W d b s m)

/-- What a step keeps of the memory. -/
def keep (x : Bx 16 2048 1024) (Ww : Mt 1024 32) (bw : Vc 32) (b : Fin 16) (m : Fin 32) : ℕ → EReal := fun s =>
  if h : s < 2048 then 1 - gate x Ww bw b ⟨s, h⟩ m else 0

/-- What a step adds to the memory. -/
def put (x : Bx 16 2048 1024) (Ww : Mt 1024 32) (bw : Vc 32) (Wt : Mt 1024 32) (bt : Vc 32) (b : Fin 16) (m : Fin 32) :
    ℕ → EReal := fun s =>
  if h : s < 2048 then gate x Ww bw b ⟨s, h⟩ m * lin x Wt bt b ⟨s, h⟩ m else 0

/-- The memory before step `s`: it starts at 0. -/
def mem (x : Bx 16 2048 1024) (Ww : Mt 1024 32) (bw : Vc 32) (Wt : Mt 1024 32) (bt : Vc 32) (b : Fin 16) (m : Fin 32)
    (s : ℕ) : EReal :=
  adv (keep x Ww bw b m) (put x Ww bw Wt bt b m) 0 s 0

/-- What step `s` reads from the memory. -/
def rd (x : Bx 16 2048 1024) (Wr : Mt 1024 32) (br : Vc 32) (Ww : Mt 1024 32) (bw : Vc 32) (Wt : Mt 1024 32) (bt : Vc 32)
    (b : Fin 16) (s : Fin 2048) (m : Fin 32) : EReal :=
  gate x Wr br b s m * mem x Ww bw Wt bt b m s

/-- The lower half of the last weight. -/
def low (Wo : Mt 2048 1024) (j e : Fin 1024) : EReal := Wo (ix2 ⟨1024 + j.val, by omega⟩ e)

/-- The upper half's product with the input. -/
def direct (x : Bx 16 2048 1024) (Wo : Mt 2048 1024) (b : Fin 16) (s : Fin 2048) (e : Fin 1024) : EReal :=
  ∑ d : Fin 1024, x (ix3 b s d) * Wo (ix2 ⟨d.val, by omega⟩ e)

/-- The result before the hyperbolic tangent, in the reference's order: what was read is projected, then multiplied with
    the lower half of the last weight. -/
def refOut (x : Bx 16 2048 1024) (Wp : Mt 32 1024) (bp : Vc 1024) (Wo : Mt 2048 1024) (bo : Vc 1024)
    (r : Fin 16 → Fin 2048 → Fin 32 → EReal) (b : Fin 16) (s : Fin 2048) (e : Fin 1024) : EReal :=
  direct x Wo b s e + ∑ j : Fin 1024, (∑ m : Fin 32, Wp (ix2 m j) * r b s m + bp (ix1 j)) * low Wo j e + bo (ix1 e)

/-- The same in the kernel's order: the projection and its bias are multiplied with the lower half first. -/
def kerOut (x : Bx 16 2048 1024) (Wp : Mt 32 1024) (bp : Vc 1024) (Wo : Mt 2048 1024) (bo : Vc 1024)
    (r : Fin 16 → Fin 2048 → Fin 32 → EReal) (b : Fin 16) (s : Fin 2048) (e : Fin 1024) : EReal :=
  direct x Wo b s e + ∑ m : Fin 32, r b s m * ∑ j : Fin 1024, Wp (ix2 m j) * low Wo j e
    + (∑ j : Fin 1024, bp (ix1 j) * low Wo j e + bo (ix1 e))

end Cert.Spec

end
-- ==== Proof.Rounds.lean ====
/-
  The kernel's five rounds on a tile, row by row: a concatenation of a constant block with the left part of an array moves
  every row right, and each round's two arrays are the radix-4 scan's rows (`Cert.Scan`).
-/
module

public import proofs.«01_k».proof.Proof.Gen.KernelIdeal.Skeleton
public import proofs.«01_k».proof.Proof.Spec

@[expose] public section

set_option maxRecDepth 16384

noncomputable section

namespace Cert.KernelIdeal.Tile

open Cert.KernelIdeal Cert.KernelIdeal.Gen Idealize.ShloMosaic Cert.Scan Cert.Spec

/-- One row of a tile's array. -/
def row (X : Mt 32 1024) (m : Fin 32) : Fin 1024 → EReal := fun t => X (ix2 m t)

/-- Every row moved right by `k`, `f` moved in. -/
def mv (k : ℕ) (f : EReal) (X : Mt 32 1024) : Mt 32 1024 := fun j => sh k f (row X (j 0)) (j 1)

/-- A round's first array. -/
def rdA (K : ℕ) (X : Mt 32 1024) : Mt 32 1024 := fun j => rA K (row X (j 0)) (j 1)

/-- A round's second array. -/
def rdB (K : ℕ) (X Y : Mt 32 1024) : Mt 32 1024 := fun j => rB K (row X (j 0)) (row Y (j 0)) (j 1)

/-- A row of what has been moved is the row, moved. -/
theorem row_mv (k : ℕ) (f : EReal) (X : Mt 32 1024) (m : Fin 32) : row (mv k f X) m = sh k f (row X m) := rfl

theorem row_rdA (K : ℕ) (X : Mt 32 1024) (m : Fin 32) : row (rdA K X) m = rA K (row X m) := rfl

theorem row_rdB (K : ℕ) (X Y : Mt 32 1024) (m : Fin 32) : row (rdB K X Y) m = rB K (row X m) (row Y m) := rfl

/-- An array is its rows' entries. -/
theorem eq_row (X : Mt 32 1024) (j : S32x1024.Idx) : X j = row X (j 0) (j 1) := congrArg X (eq_ix2 j)

/-- A constant block of `k` columns followed by the first `n` columns of an array: every row moved right by `k`. -/
theorem concat_eq_mv (k n : ℕ) (c : Ideal .f32) (X : FVec Ideal S32x1024 .f32)
    (hs : S32x1024.Slices ![0, 0] ⟨2, ![32, n]⟩)
    (hc : Shape.Concatenates [⟨2, ![32, k]⟩, ⟨2, ![32, n]⟩] S32x1024 1) :
    concatenate S32x1024 1 [⟨⟨2, ![32, k]⟩, broadcast ⟨2, ![32, k]⟩ c⟩,
      ⟨⟨2, ![32, n]⟩, extractStridedSlice ⟨2, ![32, n]⟩ ![0, 0] X hs⟩] hc = mv k c X := by
  funext j
  rw [concatenate_pair_apply]
  unfold mv sh
  by_cases h : (j 1).val < k
  · exact (dif_pos h).trans (if_pos h).symm
  · refine (dif_neg h).trans (Eq.trans ?_ (if_neg h).symm)
    unfold row extractStridedSlice
    refine congrArg X (funext fun a => Fin.ext ?_)
    match a with
    | ⟨0, _⟩ => exact Nat.zero_add _
    | ⟨1, _⟩ => exact Nat.zero_add _

/-- A round's first array, of the array moved by one, two and three windows. -/
theorem mul_eq_rdA (K : ℕ) (X : FVec Ideal S32x1024 .f32) :
    mulf X (mulf (mv K 1 X) (mulf (mv (2 * K) 1 X) (mv (3 * K) 1 X)) : FVec Ideal S32x1024 .f32) = rdA K X := by
  funext j
  show X j * _ = row X (j 0) (j 1) * _
  rw [eq_row X j]
  rfl

/-- A round's second array, of the two arrays moved by one, two and three windows. -/
theorem add_eq_rdB (K : ℕ) (X Y : FVec Ideal S32x1024 .f32) :
    addf Y (mulf X (addf (mv K 0 Y) (mulf (mv K 1 X) (addf (mv (2 * K) 0 Y)
      (mulf (mv (2 * K) 1 X) (mv (3 * K) 0 Y) : FVec Ideal S32x1024 .f32)))) : FVec Ideal S32x1024 .f32) = rdB K X Y := by
  funext j
  show Y j + X j * _ = row Y (j 0) (j 1) + row X (j 0) (j 1) * _
  rw [eq_row X j, eq_row Y j]
  rfl

/-- The pattern of 1 and of 0, as the numbers they are. -/
theorem one_bits : (Scalar.ofBits .f32 0x3F800000#32 : Ideal .f32) = 1 := Ideal.ofBits_one_f32
theorem zero_bits : (Scalar.ofBits .f32 0x00000000#32 : Ideal .f32) = 0 := Ideal.ofBits_zero_f32

/-! ## The rounds, payload by payload -/

section
variable (X Y : FVec Ideal S32x1024 .f32)

/-- Round 1's first array. -/
theorem pay15_eq : k0_pay15 X (mv 1 1 X) (mv 2 1 X) (mv 3 1 X) = rdA 1 X := mul_eq_rdA 1 X

/-- Its moves by one and two windows. -/
theorem pay16_eq : k0_pay16 X (mv 1 1 X) (mv 2 1 X) (mv 3 1 X) = mv 4 1 (rdA 1 X) := by
  dsimp only [k0_pay16]
  rw [pay15_eq, concat_eq_mv, one_bits]

theorem pay17_eq : k0_pay17 X (mv 1 1 X) (mv 2 1 X) (mv 3 1 X) = mv 8 1 (rdA 1 X) := by
  dsimp only [k0_pay17]
  rw [pay15_eq, concat_eq_mv, one_bits]

/-- Round 2's second array. -/
theorem pay18_eq : k0_pay18 X Y (mv 1 1 X) (mv 1 0 Y) (mv 2 1 X) (mv 2 0 Y) (mv 3 1 X) (mv 3 0 Y)
    = rdB 4 (rdA 1 X) (rdB 1 X Y) := by
  dsimp only [k0_pay18]
  rw [pay15_eq, pay16_eq, pay17_eq, add_eq_rdB 1 X Y, concat_eq_mv, concat_eq_mv, concat_eq_mv, zero_bits]
  exact add_eq_rdB 4 (rdA 1 X) (rdB 1 X Y)

/-- Round 2's first array. -/
theorem pay19_eq : k0_pay19 X (mv 1 1 X) (mv 2 1 X) (mv 3 1 X) = rdA 4 (rdA 1 X) := by
  dsimp only [k0_pay19]
  rw [pay15_eq, pay16_eq, pay17_eq, concat_eq_mv, one_bits]
  exact mul_eq_rdA 4 (rdA 1 X)

/-- Round 3's moves of the two arrays. -/
theorem pay20_eq : k0_pay20 X (mv 1 1 X) (mv 2 1 X) (mv 3 1 X) = mv 16 1 (rdA 4 (rdA 1 X)) := by
  dsimp only [k0_pay20]
  rw [pay19_eq, concat_eq_mv, one_bits]

theorem pay21_eq : k0_pay21 X Y (mv 1 1 X) (mv 1 0 Y) (mv 2 1 X) (mv 2 0 Y) (mv 3 1 X) (mv 3 0 Y)
    = mv 16 0 (rdB 4 (rdA 1 X) (rdB 1 X Y)) := by
  dsimp only [k0_pay21]
  rw [pay18_eq, concat_eq_mv, zero_bits]

theorem pay22_eq : k0_pay22 X (mv 1 1 X) (mv 2 1 X) (mv 3 1 X) = mv 32 1 (rdA 4 (rdA 1 X)) := by
  dsimp only [k0_pay22]
  rw [pay19_eq, concat_eq_mv, one_bits]

theorem pay23_eq : k0_pay23 X Y (mv 1 1 X) (mv 1 0 Y) (mv 2 1 X) (mv 2 0 Y) (mv 3 1 X) (mv 3 0 Y)
    = mv 32 0 (rdB 4 (rdA 1 X) (rdB 1 X Y)) := by
  dsimp only [k0_pay23]
  rw [pay18_eq, concat_eq_mv, zero_bits]

/-- Round 3's first array. -/
theorem pay25_eq : k0_pay25 X (mv 16 1 X) (mv 32 1 X) (k0_pay24 (F := Ideal)) = rdA 16 X := by
  dsimp only [k0_pay25, k0_pay24]
  rw [concat_eq_mv, one_bits]
  exact mul_eq_rdA 16 X

theorem pay26_eq : k0_pay26 X (mv 16 1 X) (mv 32 1 X) (k0_pay24 (F := Ideal)) = mv 64 1 (rdA 16 X) := by
  dsimp only [k0_pay26]
  rw [pay25_eq, concat_eq_mv, one_bits]

theorem pay27_eq : k0_pay27 X (mv 16 1 X) (mv 32 1 X) (k0_pay24 (F := Ideal)) = mv 128 1 (rdA 16 X) := by
  dsimp only [k0_pay27]
  rw [pay25_eq, concat_eq_mv, one_bits]

/-- Round 4's second array. -/
theorem pay28_eq : k0_pay28 Y X (mv 16 1 X) (mv 16 0 Y) (mv 32 1 X) (mv 32 0 Y) (k0_pay24 (F := Ideal))
    = rdB 64 (rdA 16 X) (rdB 16 X Y) := by
  dsimp only [k0_pay28]
  rw [pay25_eq, pay26_eq, pay27_eq, concat_eq_mv 48, zero_bits, add_eq_rdB 16 X Y, concat_eq_mv, concat_eq_mv,
    concat_eq_mv]
  exact add_eq_rdB 64 (rdA 16 X) (rdB 16 X Y)

/-- Round 4's first array. -/
theorem pay29_eq : k0_pay29 X (mv 16 1 X) (mv 32 1 X) (k0_pay24 (F := Ideal)) = rdA 64 (rdA 16 X) := by
  dsimp only [k0_pay29]
  rw [pay25_eq, pay26_eq, pay27_eq, concat_eq_mv, one_bits]
  exact mul_eq_rdA 64 (rdA 16 X)

/-- Round 5's moves of the two arrays. -/
theorem pay30_eq : k0_pay30 X (mv 16 1 X) (mv 32 1 X) (k0_pay24 (F := Ideal)) = mv 256 1 (rdA 64 (rdA 16 X)) := by
  dsimp only [k0_pay30]
  rw [pay29_eq, concat_eq_mv, one_bits]

theorem pay31_eq : k0_pay31 Y X (mv 16 1 X) (mv 16 0 Y) (mv 32 1 X) (mv 32 0 Y) (k0_pay24 (F := Ideal))
    = mv 256 0 (rdB 64 (rdA 16 X) (rdB 16 X Y)) := by
  dsimp only [k0_pay31]
  rw [pay28_eq, concat_eq_mv, zero_bits]

theorem pay32_eq : k0_pay32 X (mv 16 1 X) (mv 32 1 X) (k0_pay24 (F := Ideal)) = mv 512 1 (rdA 64 (rdA 16 X)) := by
  dsimp only [k0_pay32]
  rw [pay29_eq, concat_eq_mv, one_bits]

/-- Round 5's second array. -/
theorem pay33_eq : k0_pay33 Y X (mv 256 1 X) (mv 256 0 Y) (mv 512 1 X) = rdB 256 X Y := by
  dsimp only [k0_pay33]
  rw [concat_eq_mv 512, concat_eq_mv 768, zero_bits]
  exact add_eq_rdB 256 X Y

/-- Round 5's first array. -/
theorem pay34_eq : k0_pay34 X (mv 256 1 X) (mv 512 1 X) = rdA 256 X := by
  dsimp only [k0_pay34]
  rw [concat_eq_mv, one_bits]
  exact mul_eq_rdA 256 X

end

end Cert.KernelIdeal.Tile

end
-- ==== Proof.Equation.lean ====
/-
  The two orders of the last products agree: what is read from the memory is finite when the values that enter it are,
  and finite numbers distribute over a sum of which one term may be infinite.
-/
module

public import proofs.«01_k».proof.Proof.Spec

@[expose] public section

set_option maxRecDepth 16384

noncomputable section

namespace Cert.Spec

open Idealize.ShloMosaic Cert.Scan

/-- A finite factor distributes over a sum whose first term is finite. -/
theorem real_add_mul (r w : ℝ) (y : EReal) : ((r : EReal) + y) * (w : EReal) = (r : EReal) * w + y * w := by
  induction y with
  | coe y => rw [← EReal.coe_add, ← EReal.coe_mul, ← EReal.coe_mul, ← EReal.coe_mul, ← EReal.coe_add, add_mul]
  | bot =>
    rw [EReal.add_bot]
    rcases lt_trichotomy w 0 with h | h | h
    · rw [EReal.bot_mul_coe_of_neg h, ← EReal.coe_mul, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, ← EReal.coe_mul, EReal.coe_add_top]

/-- A sum of finite numbers, as the number it is. -/
theorem coe_sum' {ι : Type} (s : Finset ι) (f : ι → ℝ) : ((∑ i ∈ s, f i : ℝ) : EReal) = ∑ i ∈ s, (f i : EReal) := by
  classical
  induction s using Finset.induction_on with
  | empty => simp
  | insert i s h ih => rw [Finset.sum_insert h, Finset.sum_insert h, EReal.coe_add, ih]

/-- The projection of finite numbers, then a product with finite weights: the two orders agree whatever the bias. -/
theorem project {n k : ℕ} (r : Fin n → ℝ) (p : Fin n → Fin k → ℝ) (w : Fin k → ℝ) (d : Fin k → EReal) :
    ∑ j, (∑ m, (p m j : EReal) * (r m : EReal) + d j) * (w j : EReal)
      = ∑ m, (r m : EReal) * ∑ j, (p m j : EReal) * (w j : EReal) + ∑ j, d j * (w j : EReal) := by
  have e1 : ∀ j, ∑ m, (p m j : EReal) * (r m : EReal) = ((∑ m, p m j * r m : ℝ) : EReal) := fun j => by
    rw [coe_sum']; exact Finset.sum_congr rfl fun m _ => (EReal.coe_mul _ _).symm
  have e2 : ∀ m, ∑ j, (p m j : EReal) * (w j : EReal) = ((∑ j, p m j * w j : ℝ) : EReal) := fun m => by
    rw [coe_sum']; exact Finset.sum_congr rfl fun j _ => (EReal.coe_mul _ _).symm
  simp only [e1, e2, real_add_mul]
  rw [Finset.sum_add_distrib]
  congr 1
  simp only [← EReal.coe_mul]
  rw [← coe_sum', ← coe_sum']
  congr 1
  simp only [Finset.sum_mul, Finset.mul_sum]
  rw [Finset.sum_comm]
  exact Finset.sum_congr rfl fun m _ => Finset.sum_congr rfl fun j _ => by ring

/-- The logistic function is finite everywhere, and lies between 0 and 1. -/
theorem logistic_real (z : EReal) : ∃ r : ℝ, Ideal.logistic z = r ∧ 0 ≤ r ∧ r ≤ 1 := by
  induction z with
  | bot => exact ⟨0, Ideal.logistic_bot, le_refl _, zero_le_one⟩
  | top => exact ⟨1, Ideal.logistic_top, zero_le_one, le_refl _⟩
  | coe y =>
    have h := Real.exp_pos (-y)
    exact ⟨(1 + Real.exp (-y))⁻¹, Ideal.logistic_coe _, inv_nonneg.2 (by linarith), inv_le_one_of_one_le₀ (by linarith)⟩

/-- So a step keeps a fraction between 0 and 1 of the memory. -/
theorem one_sub_logistic (z : EReal) : ∃ r : ℝ, 1 - Ideal.logistic z = r ∧ 0 ≤ r ∧ r ≤ 1 := by
  obtain ⟨r, h, h0, h1⟩ := logistic_real z
  exact ⟨1 - r, by rw [h, EReal.coe_sub, EReal.coe_one], by linarith, by linarith⟩

/-- A linear map of finite inputs with finite weights and bias is finite. -/
theorem lin_real {x : Bx 16 2048 1024} {W : Mt 1024 32} {d : Vc 32} (hx : ∀ i, ∃ r : ℝ, x i = r)
    (hW : ∀ i, ∃ r : ℝ, W i = r) (hd : ∀ i, ∃ r : ℝ, d i = r) (b : Fin 16) (s : Fin 2048) (m : Fin 32) :
    ∃ r : ℝ, lin x W d b s m = r := by
  choose x' hx using hx
  choose W' hW using hW
  choose d' hd using hd
  refine ⟨∑ k : Fin 1024, x' (ix3 b s k) * W' (ix2 k m) + d' (ix1 m), ?_⟩
  unfold lin
  rw [EReal.coe_add, coe_sum', hd]
  congr 1
  exact Finset.sum_congr rfl fun k _ => by rw [hx, hW, EReal.coe_mul]

/-- What is read from the memory is finite. -/
theorem rd_real {x : Bx 16 2048 1024} {Wt : Mt 1024 32} {bt : Vc 32} (hx : ∀ i, ∃ r : ℝ, x i = r)
    (hW : ∀ i, ∃ r : ℝ, Wt i = r) (hd : ∀ i, ∃ r : ℝ, bt i = r) (Wr : Mt 1024 32) (br : Vc 32) (Ww : Mt 1024 32)
    (bw : Vc 32) (b : Fin 16) (s : Fin 2048) (m : Fin 32) : ∃ r : ℝ, rd x Wr br Ww bw Wt bt b s m = r := by
  obtain ⟨u, hu, -⟩ := logistic_real (lin x Wr br b s m)
  obtain ⟨v, hv⟩ := adv_real (keep x Ww bw b m) (put x Ww bw Wt bt b m) 0 0 ⟨0, rfl⟩ s.val
    (fun i hi => by
      have h : 0 + i < 2048 := by omega
      obtain ⟨r, hr, -⟩ := one_sub_logistic (lin x Ww bw b ⟨0 + i, h⟩ m)
      exact ⟨r, by unfold keep gate; rw [dif_pos h, hr]⟩)
    (fun i hi => by
      have h : 0 + i < 2048 := by omega
      obtain ⟨r, hr, -⟩ := logistic_real (lin x Ww bw b ⟨0 + i, h⟩ m)
      obtain ⟨r', hr'⟩ := lin_real hx hW hd b ⟨0 + i, h⟩ m
      exact ⟨r * r', by unfold put gate; rw [dif_pos h, hr, hr', EReal.coe_mul]⟩)
  refine ⟨u * v, ?_⟩
  unfold rd gate mem
  rw [hu, hv, EReal.coe_mul]

/-- The kernel's order and the reference's give one result. -/
theorem kerOut_eq_refOut (x : Bx 16 2048 1024) {Wp : Mt 32 1024} (bp : Vc 1024) {Wo : Mt 2048 1024} (bo : Vc 1024)
    {r : Fin 16 → Fin 2048 → Fin 32 → EReal} (hr : ∀ b s m, ∃ q : ℝ, r b s m = q) (hp : ∀ i, ∃ q : ℝ, Wp i = q)
    (hw : ∀ j e, ∃ q : ℝ, low Wo j e = q) (b : Fin 16) (s : Fin 2048) (e : Fin 1024) :
    kerOut x Wp bp Wo bo r b s e = refOut x Wp bp Wo bo r b s e := by
  choose r' hr using hr
  choose p' hp using hp
  choose w' hw using hw
  unfold kerOut refOut
  simp only [hr, hp, hw]
  rw [project (fun m => r' b s m) (fun m j => p' (ix2 m j)) (fun j => w' j e) fun j => bp (ix1 j)]
  simp only [add_assoc]

end Cert.Spec

end
-- ==== Proof.Tile.lean ====
/-
  What the kernel computes from one grid point's blocks: the gates' rows, the memory read at every step of the tile and
  left behind by it, and the stored block.
-/
module

public import proofs.«01_k».proof.Proof.Rounds
public import proofs.«01_k».proof.Proof.Equation

@[expose] public section

set_option maxRecDepth 16384

noncomputable section

namespace Cert.KernelIdeal.Tile

open Cert.KernelIdeal Cert.KernelIdeal.Gen Idealize.ShloMosaic Cert.Scan Cert.Spec

/-- One column of the three linear maps on a tile: entry `q` at step `t`. -/
def tlin (x : Bx 1 1024 1024) (wc : Mt 1024 128) (bc : Mt 1 128) (q : Fin 128) (t : Fin 1024) : EReal :=
  ∑ k : Fin 1024, x (ix3 0 t k) * wc (ix2 k q) + bc (ix2 0 q)

section
variable (x : Vec Ideal S1x1024x1024 .f32) (wc : Vec Ideal S1024x128 .bf16) (bc : Vec Ideal S1x128 .f32)

/-- The three linear maps, transposed. -/
theorem pay4_apply (q : Fin 128) (t : Fin 1024) : k0_pay4 x wc bc (ix2 q t) = tlin x wc bc q t := by
  unfold tlin
  pointwise [k0_pay4, k0_pay3]

/-- The read gate. -/
theorem pay5_apply (m : Fin 32) (t : Fin 1024) :
    k0_pay5 x wc bc (ix2 m t) = Ideal.logistic (tlin x wc bc ⟨m.val, by omega⟩ t) := by
  rw [← pay4_apply]
  pointwise [k0_pay5]

/-- What a step keeps. -/
theorem pay7_apply (m : Fin 32) (t : Fin 1024) :
    k0_pay7 x wc bc (ix2 m t) = 1 - Ideal.logistic (tlin x wc bc ⟨32 + m.val, by omega⟩ t) := by
  rw [← pay4_apply]
  pointwise [k0_pay7, k0_pay6]

/-- What a step adds. -/
theorem pay8_apply (m : Fin 32) (t : Fin 1024) :
    k0_pay8 x wc bc (ix2 m t)
      = Ideal.logistic (tlin x wc bc ⟨32 + m.val, by omega⟩ t) * tlin x wc bc ⟨64 + m.val, by omega⟩ t := by
  rw [← pay4_apply, ← pay4_apply]
  pointwise [k0_pay8, k0_pay6]

/-! ## The five rounds' arrays, as the kernel wires them -/

/-- After round 4: the second array, the first array, and their moves for round 5. -/
def q126 : FVec Ideal S32x1024 .f32 :=
  k0_pay28
    (k0_pay18 (k0_pay7 x wc bc) (k0_pay8 x wc bc) (k0_pay9 x wc bc) (k0_pay10 x wc bc) (k0_pay11 x wc bc) (k0_pay12 x wc bc)
      (k0_pay13 x wc bc) (k0_pay14 x wc bc))
    (k0_pay19 (k0_pay7 x wc bc) (k0_pay9 x wc bc) (k0_pay11 x wc bc) (k0_pay13 x wc bc))
    (k0_pay20 (k0_pay7 x wc bc) (k0_pay9 x wc bc) (k0_pay11 x wc bc) (k0_pay13 x wc bc))
    (k0_pay21 (k0_pay7 x wc bc) (k0_pay8 x wc bc) (k0_pay9 x wc bc) (k0_pay10 x wc bc) (k0_pay11 x wc bc) (k0_pay12 x wc bc)
      (k0_pay13 x wc bc) (k0_pay14 x wc bc))
    (k0_pay22 (k0_pay7 x wc bc) (k0_pay9 x wc bc) (k0_pay11 x wc bc) (k0_pay13 x wc bc))
    (k0_pay23 (k0_pay7 x wc bc) (k0_pay8 x wc bc) (k0_pay9 x wc bc) (k0_pay10 x wc bc) (k0_pay11 x wc bc) (k0_pay12 x wc bc)
      (k0_pay13 x wc bc) (k0_pay14 x wc bc))
    (k0_pay24 (F := Ideal))

def q129 : FVec Ideal S32x1024 .f32 :=
  k0_pay29
    (k0_pay19 (k0_pay7 x wc bc) (k0_pay9 x wc bc) (k0_pay11 x wc bc) (k0_pay13 x wc bc))
    (k0_pay20 (k0_pay7 x wc bc) (k0_pay9 x wc bc) (k0_pay11 x wc bc) (k0_pay13 x wc bc))
    (k0_pay22 (k0_pay7 x wc bc) (k0_pay9 x wc bc) (k0_pay11 x wc bc) (k0_pay13 x wc bc))
    (k0_pay24 (F := Ideal))

def q132 : FVec Ideal S32x1024 .f32 :=
  k0_pay30
    (k0_pay19 (k0_pay7 x wc bc) (k0_pay9 x wc bc) (k0_pay11 x wc bc) (k0_pay13 x wc bc))
    (k0_pay20 (k0_pay7 x wc bc) (k0_pay9 x wc bc) (k0_pay11 x wc bc) (k0_pay13 x wc bc))
    (k0_pay22 (k0_pay7 x wc bc) (k0_pay9 x wc bc) (k0_pay11 x wc bc) (k0_pay13 x wc bc))
    (k0_pay24 (F := Ideal))

def q135 : FVec Ideal S32x1024 .f32 :=
  k0_pay31
    (k0_pay18 (k0_pay7 x wc bc) (k0_pay8 x wc bc) (k0_pay9 x wc bc) (k0_pay10 x wc bc) (k0_pay11 x wc bc) (k0_pay12 x wc bc)
      (k0_pay13 x wc bc) (k0_pay14 x wc bc))
    (k0_pay19 (k0_pay7 x wc bc) (k0_pay9 x wc bc) (k0_pay11 x wc bc) (k0_pay13 x wc bc))
    (k0_pay20 (k0_pay7 x wc bc) (k0_pay9 x wc bc) (k0_pay11 x wc bc) (k0_pay13 x wc bc))
    (k0_pay21 (k0_pay7 x wc bc) (k0_pay8 x wc bc) (k0_pay9 x wc bc) (k0_pay10 x wc bc) (k0_pay11 x wc bc) (k0_pay12 x wc bc)
      (k0_pay13 x wc bc) (k0_pay14 x wc bc))
    (k0_pay22 (k0_pay7 x wc bc) (k0_pay9 x wc bc) (k0_pay11 x wc bc) (k0_pay13 x wc bc))
    (k0_pay23 (k0_pay7 x wc bc) (k0_pay8 x wc bc) (k0_pay9 x wc bc) (k0_pay10 x wc bc) (k0_pay11 x wc bc) (k0_pay12 x wc bc)
      (k0_pay13 x wc bc) (k0_pay14 x wc bc))
    (k0_pay24 (F := Ideal))

def q138 : FVec Ideal S32x1024 .f32 :=
  k0_pay32
    (k0_pay19 (k0_pay7 x wc bc) (k0_pay9 x wc bc) (k0_pay11 x wc bc) (k0_pay13 x wc bc))
    (k0_pay20 (k0_pay7 x wc bc) (k0_pay9 x wc bc) (k0_pay11 x wc bc) (k0_pay13 x wc bc))
    (k0_pay22 (k0_pay7 x wc bc) (k0_pay9 x wc bc) (k0_pay11 x wc bc) (k0_pay13 x wc bc))
    (k0_pay24 (F := Ideal))

/-- The six moves of round 1. -/
theorem moves_eq :
    k0_pay9 x wc bc = mv 1 1 (k0_pay7 x wc bc) ∧ k0_pay10 x wc bc = mv 1 0 (k0_pay8 x wc bc)
      ∧ k0_pay11 x wc bc = mv 2 1 (k0_pay7 x wc bc) ∧ k0_pay12 x wc bc = mv 2 0 (k0_pay8 x wc bc)
      ∧ k0_pay13 x wc bc = mv 3 1 (k0_pay7 x wc bc) ∧ k0_pay14 x wc bc = mv 3 0 (k0_pay8 x wc bc) := by
  dsimp only [k0_pay9, k0_pay10, k0_pay11, k0_pay12, k0_pay13, k0_pay14]
  rw [concat_eq_mv, concat_eq_mv, concat_eq_mv, concat_eq_mv, concat_eq_mv, concat_eq_mv, one_bits, zero_bits]
  exact ⟨rfl, rfl, rfl, rfl, rfl, rfl⟩

/-- The first array after round 4, from the steps' own array. -/
def r4A (X : Mt 32 1024) : Mt 32 1024 := rdA 64 (rdA 16 (rdA 4 (rdA 1 X)))

/-- The second array after round 4. -/
def r4B (X Y : Mt 32 1024) : Mt 32 1024 :=
  rdB 64 (rdA 16 (rdA 4 (rdA 1 X))) (rdB 16 (rdA 4 (rdA 1 X)) (rdB 4 (rdA 1 X) (rdB 1 X Y)))

theorem q126_eq : q126 x wc bc = r4B (k0_pay7 x wc bc) (k0_pay8 x wc bc) := by
  obtain ⟨h1, h2, h3, h4, h5, h6⟩ := moves_eq x wc bc
  unfold q126
  rw [h1, h2, h3, h4, h5, h6, pay18_eq, pay19_eq, pay20_eq, pay21_eq, pay22_eq, pay23_eq, pay28_eq]
  rfl

theorem q129_eq : q129 x wc bc = r4A (k0_pay7 x wc bc) := by
  obtain ⟨h1, -, h3, -, h5, -⟩ := moves_eq x wc bc
  unfold q129
  rw [h1, h3, h5, pay19_eq, pay20_eq, pay22_eq, pay29_eq]
  rfl

theorem q132_eq : q132 x wc bc = mv 256 1 (r4A (k0_pay7 x wc bc)) := by
  obtain ⟨h1, -, h3, -, h5, -⟩ := moves_eq x wc bc
  unfold q132
  rw [h1, h3, h5, pay19_eq, pay20_eq, pay22_eq, pay30_eq]
  rfl

theorem q135_eq : q135 x wc bc = mv 256 0 (r4B (k0_pay7 x wc bc) (k0_pay8 x wc bc)) := by
  obtain ⟨h1, h2, h3, h4, h5, h6⟩ := moves_eq x wc bc
  unfold q135
  rw [h1, h2, h3, h4, h5, h6, pay18_eq, pay19_eq, pay20_eq, pay21_eq, pay22_eq, pay23_eq, pay31_eq]
  rfl

theorem q138_eq : q138 x wc bc = mv 512 1 (r4A (k0_pay7 x wc bc)) := by
  obtain ⟨h1, -, h3, -, h5, -⟩ := moves_eq x wc bc
  unfold q138
  rw [h1, h3, h5, pay19_eq, pay20_eq, pay22_eq, pay32_eq]
  rfl

/-! ## The memory over a tile -/

variable (z : Vec Ideal S32x1 .f32)

/-- What the tile's steps read, as the kernel computes it from the memory `z` it finds. -/
def reads : FVec Ideal S32x1024 .f32 :=
  k0_pay35 (k0_pay5 x wc bc) (q126 x wc bc) (q129 x wc bc) (q132 x wc bc) (q135 x wc bc) (q138 x wc bc) z

/-- The memory it leaves behind. -/
def leaves : FVec Ideal S32x1 .f32 :=
  k0_pay36 (q126 x wc bc) (q129 x wc bc) (q132 x wc bc) (q135 x wc bc) (q138 x wc bc) z

/-- What the tile's steps keep, and what they add. -/
def tkeep (m : Fin 32) : ℕ → EReal := fun t =>
  if h : t < 1024 then 1 - Ideal.logistic (tlin x wc bc ⟨32 + m.val, by omega⟩ ⟨t, h⟩) else 0

def tput (m : Fin 32) : ℕ → EReal := fun t =>
  if h : t < 1024 then Ideal.logistic (tlin x wc bc ⟨32 + m.val, by omega⟩ ⟨t, h⟩) * tlin x wc bc ⟨64 + m.val, by omega⟩ ⟨t, h⟩
  else 0

/-- The two arrays round 1 starts from hold each step's own map. -/
theorem isWin_start (m : Fin 32) :
    IsWin (tkeep x wc bc m) (tput x wc bc m) 1 (row (k0_pay7 x wc bc) m) (row (k0_pay8 x wc bc) m) := by
  refine isWin_one _ _ _ _ (fun t => ?_) (fun t => ?_) (fun t => ?_)
  · unfold row tkeep
    rw [pay7_apply, dif_pos t.isLt]
  · unfold row tput
    rw [pay8_apply, dif_pos t.isLt]
  · unfold row
    rw [pay7_apply]
    obtain ⟨r, h, h0, -⟩ := one_sub_logistic (tlin x wc bc ⟨32 + m.val, by omega⟩ t)
    rw [h]
    exact ⟨EReal.coe_nonneg.mpr h0, EReal.coe_ne_top r⟩

/-- Round 5's arrays, row by row. -/
theorem pay34_row (m : Fin 32) :
    row (k0_pay34 (q129 x wc bc) (q132 x wc bc) (q138 x wc bc)) m = allA (row (k0_pay7 x wc bc) m) := by
  rw [q129_eq, q132_eq, q138_eq, pay34_eq]
  rfl

theorem pay33_row (m : Fin 32) :
    row (k0_pay33 (q126 x wc bc) (q129 x wc bc) (q132 x wc bc) (q135 x wc bc) (q138 x wc bc)) m
      = allB (row (k0_pay7 x wc bc) m) (row (k0_pay8 x wc bc) m) := by
  rw [q126_eq, q129_eq, q132_eq, q135_eq, q138_eq, pay33_eq]
  rfl

/-- Step `t` reads the gate times the memory after the tile's first `t` steps. -/
theorem reads_apply (m : Fin 32) (t : Fin 1024) :
    reads x wc bc z (ix2 m t) = Ideal.logistic (tlin x wc bc ⟨m.val, by omega⟩ t)
      * adv (tkeep x wc bc m) (tput x wc bc m) 0 t.val (z (ix2 m 0)) := by
  rw [← all_before _ _ (isWin_start x wc bc m), ← pay34_row, ← pay33_row, ← row_mv, ← row_mv, ← pay5_apply]
  unfold reads
  generalize q126 x wc bc = u126
  generalize q129 x wc bc = u129
  generalize q132 x wc bc = u132
  generalize q135 x wc bc = u135
  generalize q138 x wc bc = u138
  generalize k0_pay5 x wc bc = u15
  dsimp only [k0_pay35]
  generalize k0_pay33 u126 u129 u132 u135 u138 = uB
  generalize k0_pay34 u129 u132 u138 = uA
  rw [concat_eq_mv, concat_eq_mv, one_bits, zero_bits]
  generalize mv 1 1 uA = A1
  generalize mv 1 0 uB = B1
  unfold row
  pointwise []

/-- The tile leaves the memory after its last step. -/
theorem leaves_apply (m : Fin 32) :
    leaves x wc bc z (ix2 m 0) = adv (tkeep x wc bc m) (tput x wc bc m) 0 1024 (z (ix2 m 0)) := by
  refine Eq.trans ?_ (all_after _ _ (isWin_start x wc bc m) ⟨1023, by omega⟩ (z (ix2 m 0)))
  rw [← pay34_row, ← pay33_row]
  unfold leaves
  generalize q126 x wc bc = u126
  generalize q129 x wc bc = u129
  generalize q132 x wc bc = u132
  generalize q135 x wc bc = u135
  generalize q138 x wc bc = u138
  dsimp only [k0_pay36]
  generalize k0_pay33 u126 u129 u132 u135 u138 = uB
  generalize k0_pay34 u129 u132 u138 = uA
  unfold row
  pointwise []

end

/-! ## The stored block -/

/-- The block the kernel stores: `r` is what its steps read, `b0` and `b1` the two last biases. -/
theorem pay1_apply (x : Vec Ideal S1x1024x1024 .f32) (r : FVec Ideal S32x1024 .f32) (woa wob : Vec Ideal S1024x1024 .f32)
    (wp : Vec Ideal S32x1024 .f32) (b0 b1 : Vec Ideal S1x1024 .f32) (t e : Fin 1024) :
    k0_pay1 (k0_pay3 x) r (k0_pay37 wob) (k0_pay38 wob wp) b0 b1 woa (ix3 0 t e)
      = Ideal.tanh (∑ d : Fin 1024, x (ix3 0 t d) * woa (ix2 d e)
          + ∑ m : Fin 32, r (ix2 m t) * ∑ j : Fin 1024, wp (ix2 m j) * wob (ix2 j e)
          + (∑ j : Fin 1024, b0 (ix2 0 j) * wob (ix2 j e) + b1 (ix2 0 e))) := by
  pointwise [k0_pay1, k0_pay3, k0_pay37, k0_pay38]

/-- The memory starts at 0. -/
theorem pay2_apply (m : Fin 32) (q : Fin 128) : k0_pay2 (F := Ideal) (ix2 m q) = 0 := by
  pointwise [k0_pay2]

end Cert.KernelIdeal.Tile

end
-- ==== Proof.Blocks.lean ====
/-
  What the body's found pieces are: at a grid point of either case, the block left in the result's staging buffer and the
  memory left in the scratch buffer, as the payloads of the blocks loaded.
-/
module

public import proofs.«01_k».proof.Proof.Tile
public import proofs.«01_k».proof.Proof.Gen.KernelIdeal.Value

@[expose] public section

set_option maxRecDepth 16384

noncomputable section

namespace Cert.KernelIdeal.Tile

open Cert.KernelIdeal Cert.KernelIdeal.Gen Idealize.ShloMosaic Idealize.ShloMosaic.TcCoe Cert.Scan Cert.Spec

theorem zero2 : (![0, 0] : Fin 2 → Nat) = fun _ => 0 := funext fun a => by fin_cases a <;> rfl
theorem zero3 : (![0, 0, 0] : Fin 3 → Nat) = fun _ => 0 := funext fun a => by fin_cases a <;> rfl

/-- The stored block's entry for step `t` and column `e`, from the loaded blocks and the memory `z` found. -/
def tout (x0 : Bx 1 1024 1024) (x1 : Mt 1024 128) (x2 : Mt 1 128) (x3 x4 : Mt 1024 1024) (x5 : Mt 32 1024) (x6 : Mt 2 1024)
    (z : Fin 32 → EReal) (t e : Fin 1024) : EReal :=
  Ideal.tanh (∑ d : Fin 1024, x0 (ix3 0 t d) * x3 (ix2 d e)
    + ∑ m : Fin 32, (Ideal.logistic (tlin x0 x1 x2 ⟨m.val, by omega⟩ t)
        * adv (tkeep x0 x1 x2 m) (tput x0 x1 x2 m) 0 t.val (z m)) * ∑ j : Fin 1024, x5 (ix2 m j) * x4 (ix2 j e)
    + (∑ j : Fin 1024, x6 (ix2 0 j) * x4 (ix2 j e) + x6 (ix2 1 e)))

/-- The stored payload is that entry: the two biases are the rows of one block, the memory found the first column of
    what was loaded. -/
theorem stored_apply (x0 : Vec Ideal S1x1024x1024 .f32) (x1 : Vec Ideal S1024x128 .bf16) (x2 : Vec Ideal S1x128 .f32)
    (x3 x4 : Vec Ideal S1024x1024 .f32) (x5 : Vec Ideal S32x1024 .f32) (x6 : Vec Ideal S2x1024 .f32)
    (z : Vec Ideal S32x1 .f32) (t e : Fin 1024) :
    k0_pay1 (k0_pay3 x0) (reads x0 x1 x2 z) (k0_pay37 x4) (k0_pay38 x4 x5)
        (View.ld x6 (Rect.unit ![0, 0] ![1, 1024] inb_S2x1024_S1x1024_0_0))
        (View.ld x6 (Rect.unit ![1, 0] ![1, 1024] inb_S2x1024_S1x1024_1_0)) x3 (ix3 0 t e)
      = tout x0 x1 x2 x3 x4 x5 x6 (fun m => z (ix2 m 0)) t e := by
  have r0 : ∀ j : Fin 1024, View.ld x6 (Rect.unit ![0, 0] ![1, 1024] inb_S2x1024_S1x1024_0_0) (ix2 0 j) = x6 (ix2 0 j) :=
    fun j => congrArg x6 (funext fun a => Fin.ext (by
      match a with
      | ⟨0, _⟩ => rfl
      | ⟨1, _⟩ => show 0 + 1 * j.val = j.val; omega))
  have r1 : View.ld x6 (Rect.unit ![1, 0] ![1, 1024] inb_S2x1024_S1x1024_1_0) (ix2 0 e) = x6 (ix2 1 e) :=
    congrArg x6 (funext fun a => Fin.ext (by
      match a with
      | ⟨0, _⟩ => rfl
      | ⟨1, _⟩ => show 0 + 1 * e.val = e.val; omega))
  rw [pay1_apply]
  unfold tout
  rw [r1]
  simp only [r0, reads_apply]

/-- The memory a first tile finds: zeros, read back through the scratch buffer. -/
def fresh (a10 : Memref sig .tc .vmem S32x128 .f32) : Vec Ideal S32x1 .f32 :=
  a10.view.readCov [⟨Rect.unit ![0, 0] ![32, 128] inb_S32x128_S32x128_0_0, k0_pay2 (F := Ideal)⟩]
    (Rect.unit ![0, 0] ![32, 1] inb_S32x128_S32x1_0_0).toLoadRect

theorem fresh_apply (a10 : Memref sig .tc .vmem S32x128 .f32) (m : Fin 32) : fresh a10 (ix2 m 0) = 0 := by
  unfold fresh
  rw [View.readCov_eq_canon', View.canon_unit_zero (S := S32x128) zero2]
  exact (congrArg (k0_pay2 (F := Ideal)) (eq_ix2 _)).trans (pay2_apply _ _)

section
variable (c : Dev nD) (i : grid0.Coords) (a2 : Memref sig .tc .vmem S1x1024x1024 .f32) (h2 : a2.IsWhole)
  (a3 : Memref sig .tc .vmem S1024x128 .bf16) (h3 : a3.IsWhole) (a4 : Memref sig .tc .vmem S1x128 .f32) (h4 : a4.IsWhole)
  (a5 : Memref sig .tc .vmem S1024x1024 .f32) (h5 : a5.IsWhole) (a6 : Memref sig .tc .vmem S1024x1024 .f32)
  (h6 : a6.IsWhole) (a7 : Memref sig .tc .vmem S32x1024 .f32) (h7 : a7.IsWhole) (a8 : Memref sig .tc .vmem S2x1024 .f32)
  (h8 : a8.IsWhole) (a9 : Memref sig .tc .vmem S1x1024x1024 .f32) (h9 : a9.IsWhole)
  (a10 : Memref sig .tc .vmem S32x128 .f32) (h10 : a10.IsWhole) (x0 : Vec Ideal S1x1024x1024 .f32)
  (x1 : Vec Ideal S1024x128 .bf16) (x2 : Vec Ideal S1x128 .f32) (x3 x4 : Vec Ideal S1024x1024 .f32)
  (x5 : Vec Ideal S32x1024 .f32) (x6 : Vec Ideal S2x1024 .f32) (xs : Vec Ideal S32x128 .f32)

/-- A sequence's second tile: its entries, from the memory `xs` the first tile left in the scratch's first column. -/
theorem out_B (hc : ¬cond0_0 i) (t e : Fin 1024) :
    out0_B_7 c i a2 h2 a3 h3 a4 h4 a5 h5 a6 h6 a7 h7 a8 h8 a9 h9 a10 h10 hc x0 x1 x2 x3 x4 x5 x6
        xs (ix3 0 t e)
      = tout x0 x1 x2 x3 x4 x5 x6 (fun m => xs (ix2 m 0)) t e := by
  have hz : (fun m : Fin 32 => View.ld xs (Rect.unit ![0, 0] ![32, 1] inb_S32x128_S32x1_0_0) (ix2 m 0))
      = fun m => xs (ix2 m 0) := funext fun m => congrArg xs (funext fun a => Fin.ext (by
    match a with
    | ⟨0, _⟩ => show 0 + 1 * m.val = m.val; omega
    | ⟨1, _⟩ => rfl))
  unfold out0_B_7
  rw [View.read_writes_eq_canon _ _ _ (cover0_B_7 c i a2 h2 a3 h3 a4 h4 a5 h5 a6 h6 a7 h7 a8 h8 a9 h9 a10 h10 hc x0 x1 x2 x3 x4 x5 x6 xs)]
  unfold kernelRun0_B
  dsimp only
  sl_unfold_words
  rw [View.canon_unit_zero zero3]
  simp only [View.readAt_eq_ld, h2.read_unread, h3.read_unread, h4.read_unread, h5.read_unread, h6.read_unread,
    h7.read_unread, h8.read_unread, h10.read_unread, View.ld_unit_zero (S := S1x1024x1024) zero3,
    View.ld_unit_zero (S := S1024x128) zero2, View.ld_unit_zero (S := S1x128) zero2,
    View.ld_unit_zero (S := S1024x1024) zero2, View.ld_unit_zero (S := S32x1024) zero2]
  have key := stored_apply x0 x1 x2 x3 x4 x5 x6 (View.ld xs (Rect.unit ![0, 0] ![32, 1] inb_S32x128_S32x1_0_0)) t e
  rw [hz] at key
  unfold reads q126 q129 q132 q135 q138 at key
  exact key

/-- A sequence's first tile: its entries, from a memory of zeros. -/
theorem out_A (hc : cond0_0 i) (t e : Fin 1024) :
    out0_A_7 c i a2 h2 a3 h3 a4 h4 a5 h5 a6 h6 a7 h7 a8 h8 a9 h9 a10 h10 hc x0 x1 x2 x3 x4 x5 x6
        (ix3 0 t e)
      = tout x0 x1 x2 x3 x4 x5 x6 (fun _ => 0) t e := by
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  unfold kernelRun0_A
  dsimp only
  sl_unfold_words
  rw [View.canon_unit_zero zero3]
  simp only [View.readAt_eq_ld, h2.read_unread, h3.read_unread, h4.read_unread, h5.read_unread, h6.read_unread,
    h7.read_unread, h8.read_unread, h10.read_unread, View.ld_unit_zero (S := S1x1024x1024) zero3,
    View.ld_unit_zero (S := S1024x128) zero2, View.ld_unit_zero (S := S1x128) zero2,
    View.ld_unit_zero (S := S1024x1024) zero2, View.ld_unit_zero (S := S32x1024) zero2]
  have key := stored_apply x0 x1 x2 x3 x4 x5 x6 (fresh a10) t e
  rw [show (fun m : Fin 32 => fresh a10 (ix2 m 0)) = fun _ => 0 from funext fun m => fresh_apply a10 m] at key
  unfold reads q126 q129 q132 q135 q138 fresh at key
  exact key

/-- What a first tile leaves in the scratch's first column: the memory after its last step. -/
theorem sout_A (hc : cond0_0 i) (m : Fin 32) :
    sout0_A_0 c i a2 h2 a3 h3 a4 h4 a5 h5 a6 h6 a7 h7 a8 h8 a9 h9 a10 h10 hc x0 x1 x2 x3 x4 x5 x6
        (ix2 m 0)
      = adv (tkeep x0 x1 x2 m) (tput x0 x1 x2 m) 0 1024 0 := by
  rw [← fresh_apply a10 m, ← leaves_apply]
  unfold sout0_A_0
  rw [View.read_writes_eq_canon _ _ _ (scover0_A_0 c i a2 h2 a3 h3 a4 h4 a5 h5 a6 h6 a7 h7 a8 h8 a9 h9 a10 h10 hc x0 x1 x2 x3 x4 x5 x6)]
  unfold kernelRun0_A
  dsimp only
  sl_unfold_words
  simp only [View.readAt_eq_ld, h2.read_unread, h3.read_unread, h4.read_unread, h5.read_unread, h6.read_unread,
    h7.read_unread, h8.read_unread, h10.read_unread, View.ld_unit_zero (S := S1x1024x1024) zero3,
    View.ld_unit_zero (S := S1024x128) zero2, View.ld_unit_zero (S := S1x128) zero2,
    View.ld_unit_zero (S := S1024x1024) zero2, View.ld_unit_zero (S := S32x1024) zero2]
  have key := View.canon_cons_emb (Val := Elt Ideal) (e := .f32) (Rect.unit (s := S32x128) ![0, 0] S32x1.size inb_S32x128_S32x1_0_0)
    (leaves x0 x1 x2 (fresh a10))
    [⟨Rect.unit (s := S32x128) ![0, 0] S32x128.size inb_S32x128_S32x128_0_0, k0_pay2 (F := Ideal)⟩] (ix2 m 0 : S32x1.Idx)
  have hi : (Rect.unit (s := S32x128) ![0, 0] S32x1.size inb_S32x128_S32x1_0_0).emb (ix2 m 0 : S32x1.Idx) = (ix2 m 0 : S32x128.Idx) :=
    funext fun a => Fin.ext (by
      match a with
      | ⟨0, _⟩ => show 0 + 1 * m.val = m.val; omega
      | ⟨1, _⟩ => rfl)
  rw [hi] at key
  refine Eq.trans ?_ key
  unfold leaves q126 q129 q132 q135 q138 fresh
  rfl

end

end Cert.KernelIdeal.Tile

end
-- ==== Proof.Inputs.lean ====
/-
  The blocks a grid point loads, read off the launched arguments: a tile of the input, and the six arrays that are the
  same at every point, three of them prepared before the launch.
-/
module

public import proofs.«01_k».proof.Proof.Spec
public import proofs.«01_k».proof.Proof.Gen.KernelIdeal.Value
public import Idealize.ShloMosaic.Lib.StableHlo.RunRead

@[expose] public section

set_option maxRecDepth 16384

noncomputable section

namespace Cert.KernelIdeal.Tile

open Cert.KernelIdeal Cert.KernelIdeal.Gen Idealize.ShloMosaic Idealize.ShloMosaic.TcCoe Idealize.SL.Sem Cert.Spec

/-! ## The three prepared arrays, as functions of the arguments -/

/-- The gates' and the linear map's weights side by side. -/
theorem weights_apply (W1 W2 W3 W4 : Mt 1024 32) (k : Fin 1024) (m : Fin 32)
    (h : Shape.Concatenates [S1024x32, S1024x32, S1024x32, S1024x32] S1024x128 1) :
    let U : Mt 1024 128 := concatenate S1024x128 1 [⟨S1024x32, W1⟩, ⟨S1024x32, W2⟩, ⟨S1024x32, W3⟩, ⟨S1024x32, W4⟩] h
    U (ix2 k ⟨m.val, by omega⟩) = W1 (ix2 k m) ∧ U (ix2 k ⟨32 + m.val, by omega⟩) = W2 (ix2 k m)
      ∧ U (ix2 k ⟨64 + m.val, by omega⟩) = W3 (ix2 k m) := by
  have hm := m.isLt
  dsimp only
  refine ⟨?_, ?_, ?_⟩
  · pointwise []
  · pointwise []
  · pointwise []
    rw [dif_neg (by omega), dif_neg (by omega), dif_pos (by omega)]
    congr 2
    exact Fin.ext (by dsimp only; omega)

/-- The biases side by side, as one row. -/
theorem biases_apply (d1 d2 d3 d4 : Vc 32) (m : Fin 32) (h : Shape.Concatenates [S32, S32, S32, S32] S128 0)
    (hc : S128.ShapeCasts S1x128) :
    let u : Mt 1 128 := shapeCast S1x128 (concatenate S128 0 [⟨S32, d1⟩, ⟨S32, d2⟩, ⟨S32, d3⟩, ⟨S32, d4⟩] h) hc
    u (ix2 0 ⟨m.val, by omega⟩) = d1 (ix1 m) ∧ u (ix2 0 ⟨32 + m.val, by omega⟩) = d2 (ix1 m)
      ∧ u (ix2 0 ⟨64 + m.val, by omega⟩) = d3 (ix1 m) := by
  have hm := m.isLt
  dsimp only
  refine ⟨?_, ?_, ?_⟩
  · pointwise []
  · pointwise []
  · pointwise []
    rw [dif_neg (by omega), dif_neg (by omega), dif_pos (by omega)]
    congr 2
    exact Fin.ext (by dsimp only; omega)

/-- The two last biases, one on top of the other. -/
theorem lastBiases_apply (p q : Vc 1024) (e : Fin 1024) (hp : S1024.BroadcastsInDim S1x1024 (![1] : Fin 1 → Fin S1x1024.rank))
    (h : Shape.Concatenates [S1x1024, S1x1024] S2x1024 0) :
    let U : Mt 2 1024 := concatenate S2x1024 0 [⟨S1x1024, broadcastInDim S1x1024 ![1] hp p⟩,
      ⟨S1x1024, broadcastInDim S1x1024 ![1] hp q⟩] h
    U (ix2 0 e) = p (ix1 e) ∧ U (ix2 1 e) = q (ix1 e) := by
  dsimp only
  refine ⟨?_, ?_⟩
  · pointwise []
  · pointwise []

variable (mm : (ℓ : Loc nD τ sig) → Buf (Elt Ideal) ℓ) (c : Dev nD)

/-- The prepared weights: the three weights side by side, and zeros. -/
def weights : Mt 1024 128 :=
  concatenate S1024x128 1 [⟨S1024x32, (mm (c.tc.loc main_arg1) : Mt 1024 32)⟩,
    ⟨S1024x32, (mm (c.tc.loc main_arg3) : Mt 1024 32)⟩, ⟨S1024x32, (mm (c.tc.loc main_arg5) : Mt 1024 32)⟩,
    ⟨S1024x32, (broadcastInDim S1024x32 ![] bcast_S_S1024x32 (constant (F := Ideal) S_ .f32 0x00000000#32) : Mt 1024 32)⟩]
    concatenates_S1024x32_S1024x32_S1024x32_S1024x32_S1024x128_d1

/-- The prepared biases: the three biases, and zeros, as one row. -/
def biases : Mt 1 128 :=
  shapeCast S1x128 (concatenate S128 0 [⟨S32, (mm (c.tc.loc main_arg2) : Vc 32)⟩,
    ⟨S32, (mm (c.tc.loc main_arg4) : Vc 32)⟩, ⟨S32, (mm (c.tc.loc main_arg6) : Vc 32)⟩,
    ⟨S32, (broadcastInDim S32 ![] bcast_S_S32 (constant (F := Ideal) S_ .f32 0x00000000#32) : Vc 32)⟩]
    concatenates_S32_S32_S32_S32_S128_d0) shapeCasts_S128_S1x128

/-- The two last biases as two rows. -/
def lastBiases : Mt 2 1024 :=
  concatenate S2x1024 0
    [⟨S1x1024, (broadcastInDim S1x1024 ![1] bcast_S1024_S1x1024_1 (mm (c.tc.loc main_arg8) : Vc 1024) : Mt 1 1024)⟩,
      ⟨S1x1024, (broadcastInDim S1x1024 ![1] bcast_S1024_S1x1024_1 (mm (c.tc.loc main_arg10) : Vc 1024) : Mt 1 1024)⟩]
    concatenates_S1x1024_S1x1024_S2x1024_d0

/-- The weights' array as the launch finds it. -/
theorem V_weights : (V mm c main_call0_v2 : Mt 1024 128) = weights mm c := by
  unfold V
  after_reads_simp
  rfl

/-- The biases' array as the launch finds it. -/
theorem V_biases : (V mm c main_call0_v5 : Mt 1 128) = biases mm c := by
  unfold V
  after_reads_simp
  rfl

/-- The last biases' array as the launch finds it. -/
theorem V_lastBiases : (V mm c main_call0_v8 : Mt 2 1024) = lastBiases mm c := by
  unfold V
  after_reads_simp
  rfl

/-- The weights' columns 0 to 31, 32 to 63 and 64 to 95 are the three weights. -/
theorem weights_read (k : Fin 1024) (m : Fin 32) :
    weights mm c (ix2 k ⟨m.val, by omega⟩) = (mm (c.tc.loc main_arg1) : Mt 1024 32) (ix2 k m) :=
  (weights_apply _ _ _ _ k m _).1
theorem weights_write (k : Fin 1024) (m : Fin 32) :
    weights mm c (ix2 k ⟨32 + m.val, by omega⟩) = (mm (c.tc.loc main_arg3) : Mt 1024 32) (ix2 k m) :=
  (weights_apply _ _ _ _ k m _).2.1
theorem weights_new (k : Fin 1024) (m : Fin 32) :
    weights mm c (ix2 k ⟨64 + m.val, by omega⟩) = (mm (c.tc.loc main_arg5) : Mt 1024 32) (ix2 k m) :=
  (weights_apply _ _ _ _ k m _).2.2

/-- The biases' columns 0 to 31, 32 to 63 and 64 to 95 are the three biases. -/
theorem biases_read (m : Fin 32) :
    biases mm c (ix2 0 ⟨m.val, by omega⟩) = (mm (c.tc.loc main_arg2) : Vc 32) (ix1 m) :=
  (biases_apply _ _ _ _ m _ _).1
theorem biases_write (m : Fin 32) :
    biases mm c (ix2 0 ⟨32 + m.val, by omega⟩) = (mm (c.tc.loc main_arg4) : Vc 32) (ix1 m) :=
  (biases_apply _ _ _ _ m _ _).2.1
theorem biases_new (m : Fin 32) :
    biases mm c (ix2 0 ⟨64 + m.val, by omega⟩) = (mm (c.tc.loc main_arg6) : Vc 32) (ix1 m) :=
  (biases_apply _ _ _ _ m _ _).2.2

/-- The last biases' rows are the projection's bias and the result's. -/
theorem lastBiases_proj (e : Fin 1024) : lastBiases mm c (ix2 0 e) = (mm (c.tc.loc main_arg8) : Vc 1024) (ix1 e) :=
  (lastBiases_apply _ _ e _ _).1
theorem lastBiases_out (e : Fin 1024) : lastBiases mm c (ix2 1 e) = (mm (c.tc.loc main_arg10) : Vc 1024) (ix1 e) :=
  (lastBiases_apply _ _ e _ _).2

/-! ## The blocks of a grid point -/

/-- Where each window's block lies at grid point `t`: the input's tile `t % 2` of sequence `t / 2`; the last weight's
    halves; every other array whole. -/
theorem index_facts : ∀ t : Fin grid0.N,
    (win0_0.index t 0 = t.val / 2 ∧ win0_0.index t 1 = t.val % 2 ∧ win0_0.index t 2 = 0)
      ∧ (win0_1.index t 0 = 0 ∧ win0_1.index t 1 = 0) ∧ (win0_2.index t 0 = 0 ∧ win0_2.index t 1 = 0)
      ∧ (win0_3.index t 0 = 0 ∧ win0_3.index t 1 = 0) ∧ (win0_4.index t 0 = 1 ∧ win0_4.index t 1 = 0)
      ∧ (win0_5.index t 0 = 0 ∧ win0_5.index t 1 = 0) ∧ (win0_6.index t 0 = 0 ∧ win0_6.index t 1 = 0) := by
  decide +kernel

variable (t : Fin cfg0.N)

theorem point_lt : t.val < 32 := lt_of_lt_of_eq t.isLt N_0

/-- The input's tile. -/
theorem blk_x (s d : Fin 1024) :
    (iblk mm c 0 t : Vec Ideal S1x1024x1024 .f32) (ix3 0 s d)
      = (mm (c.tc.loc main_arg0) : Bx 16 2048 1024) (ix3 ⟨t.val / 2, by have := point_lt t; omega⟩
          ⟨1024 * (t.val % 2) + s.val, by omega⟩ d) := by
  obtain ⟨⟨i0, i1, i2⟩, -⟩ := index_facts t
  unfold iblk
  rw [View.read_apply]
  show V mm c main_arg0 _ = _
  rw [V_main_arg0]
  refine congrArg (mm (c.tc.loc main_arg0)) (funext fun a => Fin.ext ?_)
  match a with
  | ⟨0, _⟩ => show win0_0.index t 0 * 1 + 1 * 0 = t.val / 2; rw [i0]; omega
  | ⟨1, _⟩ => show win0_0.index t 1 * 1024 + 1 * s.val = 1024 * (t.val % 2) + s.val; rw [i1]; omega
  | ⟨2, _⟩ => show win0_0.index t 2 * 1024 + 1 * d.val = d.val; rw [i2]; omega

/-- The weights' block is their array. -/
theorem blk_weights (k : Fin 1024) (q : Fin 128) :
    (iblk mm c 1 t : Vec Ideal S1024x128 .bf16) (ix2 k q) = weights mm c (ix2 k q) := by
  obtain ⟨-, ⟨i0, i1⟩, -⟩ := index_facts t
  unfold iblk
  rw [View.read_apply]
  show V mm c main_call0_v2 _ = _
  refine Eq.trans ?_ (congrFun (V_weights mm c) _)
  refine congrArg (V mm c main_call0_v2) (funext fun a => Fin.ext ?_)
  match a with
  | ⟨0, _⟩ => show win0_1.index t 0 * 1024 + 1 * k.val = k.val; rw [i0]; omega
  | ⟨1, _⟩ => show win0_1.index t 1 * 128 + 1 * q.val = q.val; rw [i1]; omega

/-- The biases' block is their array. -/
theorem blk_biases (q : Fin 128) :
    (iblk mm c 2 t : Vec Ideal S1x128 .f32) (ix2 0 q) = biases mm c (ix2 0 q) := by
  obtain ⟨-, -, ⟨i0, i1⟩, -⟩ := index_facts t
  unfold iblk
  rw [View.read_apply]
  show V mm c main_call0_v5 _ = _
  refine Eq.trans ?_ (congrFun (V_biases mm c) _)
  refine congrArg (V mm c main_call0_v5) (funext fun a => Fin.ext ?_)
  match a with
  | ⟨0, _⟩ => show win0_2.index t 0 * 1 + 1 * 0 = 0; rw [i0]
  | ⟨1, _⟩ => show win0_2.index t 1 * 128 + 1 * q.val = q.val; rw [i1]; omega

/-- The last weight's upper half. -/
theorem blk_upper (d e : Fin 1024) :
    (iblk mm c 3 t : Vec Ideal S1024x1024 .f32) (ix2 d e)
      = (mm (c.tc.loc main_arg9) : Mt 2048 1024) (ix2 ⟨d.val, by omega⟩ e) := by
  obtain ⟨-, -, -, ⟨i0, i1⟩, -⟩ := index_facts t
  unfold iblk
  rw [View.read_apply]
  show V mm c main_arg9 _ = _
  rw [V_main_arg9]
  refine congrArg (mm (c.tc.loc main_arg9)) (funext fun a => Fin.ext ?_)
  match a with
  | ⟨0, _⟩ => show win0_3.index t 0 * 1024 + 1 * d.val = d.val; rw [i0]; omega
  | ⟨1, _⟩ => show win0_3.index t 1 * 1024 + 1 * e.val = e.val; rw [i1]; omega

/-- The last weight's lower half. -/
theorem blk_lower (j e : Fin 1024) :
    (iblk mm c 4 t : Vec Ideal S1024x1024 .f32) (ix2 j e) = low (mm (c.tc.loc main_arg9)) j e := by
  obtain ⟨-, -, -, -, ⟨i0, i1⟩, -⟩ := index_facts t
  unfold iblk low
  rw [View.read_apply]
  show V mm c main_arg9 _ = _
  rw [V_main_arg9]
  refine congrArg (mm (c.tc.loc main_arg9)) (funext fun a => Fin.ext ?_)
  match a with
  | ⟨0, _⟩ => show win0_4.index t 0 * 1024 + 1 * j.val = 1024 + j.val; rw [i0]; omega
  | ⟨1, _⟩ => show win0_4.index t 1 * 1024 + 1 * e.val = e.val; rw [i1]; omega

/-- The projection. -/
theorem blk_proj (r : Fin 32) (j : Fin 1024) :
    (iblk mm c 5 t : Vec Ideal S32x1024 .f32) (ix2 r j) = (mm (c.tc.loc main_arg7) : Mt 32 1024) (ix2 r j) := by
  obtain ⟨-, -, -, -, -, ⟨i0, i1⟩, -⟩ := index_facts t
  unfold iblk
  rw [View.read_apply]
  show V mm c main_arg7 _ = _
  rw [V_main_arg7]
  refine congrArg (mm (c.tc.loc main_arg7)) (funext fun a => Fin.ext ?_)
  match a with
  | ⟨0, _⟩ => show win0_5.index t 0 * 32 + 1 * r.val = r.val; rw [i0]; omega
  | ⟨1, _⟩ => show win0_5.index t 1 * 1024 + 1 * j.val = j.val; rw [i1]; omega

/-- The last biases' block is their array. -/
theorem blk_last (r : Fin 2) (j : Fin 1024) :
    (iblk mm c 6 t : Vec Ideal S2x1024 .f32) (ix2 r j) = lastBiases mm c (ix2 r j) := by
  obtain ⟨-, -, -, -, -, -, i0, i1⟩ := index_facts t
  unfold iblk
  rw [View.read_apply]
  show V mm c main_call0_v8 _ = _
  refine Eq.trans ?_ (congrFun (V_lastBiases mm c) _)
  refine congrArg (V mm c main_call0_v8) (funext fun a => Fin.ext ?_)
  match a with
  | ⟨0, _⟩ => show win0_6.index t 0 * 2 + 1 * r.val = r.val; rw [i0]; omega
  | ⟨1, _⟩ => show win0_6.index t 1 * 1024 + 1 * j.val = j.val; rw [i1]; omega

end Cert.KernelIdeal.Tile

end
-- ==== Proof.Array.lean ====
/-
  The array the launch leaves: at every sequence, step and column it is the kernel's expression over the launched
  arguments. A tile's columns of the linear map are the sequence's own at the tile's steps, so the tile's recurrence is a
  stretch of the sequence's; the first tile starts it at zero and hands its end to the second.
-/
module

public import proofs.«01_k».proof.Proof.Blocks
public import proofs.«01_k».proof.Proof.Inputs

@[expose] public section

set_option maxRecDepth 16384

noncomputable section

namespace Cert.KernelIdeal.Tile

open Cert.KernelIdeal Cert.KernelIdeal.Gen Idealize.ShloMosaic Idealize.ShloMosaic.TcCoe Idealize.SL.Sem Cert.Spec Cert.Scan

variable (mm : (ℓ : Loc nD τ sig) → Buf (Elt Ideal) ℓ) (c : Dev nD)

/-! ## The launched arguments, named -/

/-- The input. -/
abbrev aX : Bx 16 2048 1024 := mm (c.tc.loc main_arg0)
/-- The read gate's weights and bias, the write gate's, the linear map's. -/
abbrev aWr : Mt 1024 32 := mm (c.tc.loc main_arg1)
abbrev abr : Vc 32 := mm (c.tc.loc main_arg2)
abbrev aWw : Mt 1024 32 := mm (c.tc.loc main_arg3)
abbrev abw : Vc 32 := mm (c.tc.loc main_arg4)
abbrev aWt : Mt 1024 32 := mm (c.tc.loc main_arg5)
abbrev abt : Vc 32 := mm (c.tc.loc main_arg6)
/-- The projection and its bias; the last weight and its bias. -/
abbrev aWp : Mt 32 1024 := mm (c.tc.loc main_arg7)
abbrev abp : Vc 1024 := mm (c.tc.loc main_arg8)
abbrev aWo : Mt 2048 1024 := mm (c.tc.loc main_arg9)
abbrev abo : Vc 1024 := mm (c.tc.loc main_arg10)

variable (t : Fin cfg0.N)

/-- The sequence of grid point `t`. -/
def sq : Fin 16 := ⟨t.val / 2, by have := point_lt t; omega⟩

/-- Step `s` of the tile of grid point `t`, in the sequence. -/
def at' (s : Fin 1024) : Fin 2048 := ⟨1024 * (t.val % 2) + s.val, by omega⟩

/-! ## A tile's linear maps -/

/-- Columns 0 to 31 are the read gate's linear map. -/
theorem tlin_read (m : Fin 32) (s : Fin 1024) :
    tlin (iblk mm c 0 t) (iblk mm c 1 t) (iblk mm c 2 t) ⟨m.val, by omega⟩ s
      = lin (aX mm c) (aWr mm c) (abr mm c) (sq t) (at' t s) m := by
  unfold tlin lin
  simp only [blk_x, blk_weights, blk_biases, weights_read, biases_read]
  rfl

/-- Columns 32 to 63 are the write gate's. -/
theorem tlin_write (m : Fin 32) (s : Fin 1024) :
    tlin (iblk mm c 0 t) (iblk mm c 1 t) (iblk mm c 2 t) ⟨32 + m.val, by omega⟩ s
      = lin (aX mm c) (aWw mm c) (abw mm c) (sq t) (at' t s) m := by
  unfold tlin lin
  simp only [blk_x, blk_weights, blk_biases, weights_write, biases_write]
  rfl

/-- Columns 64 to 95 are the written values'. -/
theorem tlin_new (m : Fin 32) (s : Fin 1024) :
    tlin (iblk mm c 0 t) (iblk mm c 1 t) (iblk mm c 2 t) ⟨64 + m.val, by omega⟩ s
      = lin (aX mm c) (aWt mm c) (abt mm c) (sq t) (at' t s) m := by
  unfold tlin lin
  simp only [blk_x, blk_weights, blk_biases, weights_new, biases_new]
  rfl

/-! ## A tile's recurrence is a stretch of the sequence's -/

/-- What a step of the tile keeps. -/
theorem tkeep_eq (m : Fin 32) (i : ℕ) (hi : i < 1024) :
    tkeep (iblk mm c 0 t) (iblk mm c 1 t) (iblk mm c 2 t) m i
      = keep (aX mm c) (aWw mm c) (abw mm c) (sq t) m (1024 * (t.val % 2) + i) := by
  unfold tkeep keep gate
  rw [dif_pos hi, dif_pos (by omega), tlin_write]
  rfl

/-- What a step of the tile writes. -/
theorem tput_eq (m : Fin 32) (i : ℕ) (hi : i < 1024) :
    tput (iblk mm c 0 t) (iblk mm c 1 t) (iblk mm c 2 t) m i
      = put (aX mm c) (aWw mm c) (abw mm c) (aWt mm c) (abt mm c) (sq t) m (1024 * (t.val % 2) + i) := by
  unfold tput put gate
  rw [dif_pos hi, dif_pos (by omega), tlin_write, tlin_new]
  rfl

/-- The memory before step `s`, over the launched arguments. -/
abbrev aMem (b : Fin 16) (m : Fin 32) (s : ℕ) : EReal :=
  mem (aX mm c) (aWw mm c) (abw mm c) (aWt mm c) (abt mm c) b m s

/-- A tile entered at the sequence's memory advances it. -/
theorem adv_tile (m : Fin 32) (n : ℕ) (hn : n ≤ 1024) (z : EReal) (hz : z = aMem mm c (sq t) m (1024 * (t.val % 2))) :
    adv (tkeep (iblk mm c 0 t) (iblk mm c 1 t) (iblk mm c 2 t) m)
        (tput (iblk mm c 0 t) (iblk mm c 1 t) (iblk mm c 2 t) m) 0 n z
      = aMem mm c (sq t) m (1024 * (t.val % 2) + n) := by
  rw [hz]
  unfold aMem mem
  rw [adv_add, Nat.zero_add]
  refine adv_congr _ _ _ _ (fun i hi => ?_) (fun i hi => ?_)
  · rw [Nat.zero_add]; exact tkeep_eq mm c t m i (by omega)
  · rw [Nat.zero_add]; exact tput_eq mm c t m i (by omega)

/-! ## What a grid point leaves -/

/-- The result's columns over the launched arguments. -/
abbrev aOut (b : Fin 16) (s : Fin 2048) (e : Fin 1024) : EReal :=
  Ideal.tanh (kerOut (aX mm c) (aWp mm c) (abp mm c) (aWo mm c) (abo mm c)
    (rd (aX mm c) (aWr mm c) (abr mm c) (aWw mm c) (abw mm c) (aWt mm c) (abt mm c)) b s e)

/-- A tile entered at the sequence's memory leaves the result's columns. -/
theorem tout_eq (z : Fin 32 → EReal) (hz : ∀ m, z m = aMem mm c (sq t) m (1024 * (t.val % 2))) (s e : Fin 1024) :
    tout (iblk mm c 0 t) (iblk mm c 1 t) (iblk mm c 2 t) (iblk mm c 3 t) (iblk mm c 4 t) (iblk mm c 5 t)
      (iblk mm c 6 t) z s e = aOut mm c (sq t) (at' t s) e := by
  unfold tout aOut kerOut direct rd gate
  simp only [tlin_read, blk_x, blk_upper, blk_lower, blk_proj, blk_last, lastBiases_proj, lastBiases_out,
    fun m => adv_tile mm c t m s.val s.isLt.le (z m) (hz m)]
  rfl

/-- The memory is zero before the first step. -/
theorem mem_zero (b : Fin 16) (m : Fin 32) : aMem mm c b m 0 = 0 := rfl

/-- An even point leaves its tile's result. -/
theorem point_even (h0 : t.val % 2 = 0) (s e : Fin 1024) :
    (outsAt0 mm c t.val t.isLt).1 (ix3 0 s e) = aOut mm c (sq t) (at' t s) e := by
  rw [outsAt0_A mm c t h0]
  dsimp only
  rw [out_A]
  refine tout_eq mm c t _ (fun m => ?_) s e
  rw [h0]; exact (mem_zero ..).symm

/-- An even point hands the sequence's memory after its tile to the next point. -/
theorem carry_even (h0 : t.val % 2 = 0) (m : Fin 32) :
    (outsAt0 mm c t.val t.isLt).2 (ix2 m 0) = aMem mm c (sq t) m 1024 := by
  rw [outsAt0_A mm c t h0]
  dsimp only
  rw [sout_A]
  refine (adv_tile mm c t m 1024 le_rfl _ ?_).trans (by rw [h0])
  rw [h0]; exact (mem_zero ..).symm

/-- An odd point leaves its tile's result. -/
theorem point_odd (h0 : ¬ t.val % 2 = 0) (s e : Fin 1024) :
    (outsAt0 mm c t.val t.isLt).1 (ix3 0 s e) = aOut mm c (sq t) (at' t s) e := by
  rw [outsAt0_B mm c t h0]
  dsimp only
  rw [out_B]
  refine tout_eq mm c t _ (fun m => ?_) s e
  have hp : t.val - 1 < cfg0.N := by have := t.isLt; omega
  have h1 := carry_even mm c ⟨t.val - 1, hp⟩ (by dsimp only; omega) m
  have hs : sq ⟨t.val - 1, hp⟩ = sq t := Fin.ext (by show (t.val - 1) / 2 = t.val / 2; omega)
  rw [hs] at h1
  rw [show t.val % 2 = 1 by omega]
  exact h1

/-- Every grid point leaves its tile's result. -/
theorem point (s e : Fin 1024) :
    (outsAt0 mm c t.val t.isLt).1 (ix3 0 s e) = aOut mm c (sq t) (at' t s) e := by
  by_cases h0 : t.val % 2 = 0
  · exact point_even mm c t h0 s e
  · exact point_odd mm c t h0 s e

/-! ## The array -/

/-- The array the launch leaves, at every sequence, step and column. -/
theorem array_apply (b : Fin 16) (s : Fin 2048) (e : Fin 1024) :
    (Cert.KernelIdeal.Value.G7 mm c : Bx 16 2048 1024) (ix3 b s e) = aOut mm c b s e := by
  have hpt : Cert.KernelIdeal.Value.pt7Of (ix3 b s e) = 2 * b.val + s.val / 1024 := by
    show 2 * (b.val / 1 - 0) + 1 * (s.val / 1024 - 0) + 1 * (e.val / 1024 - 0) = _
    omega
  have hlt : Cert.KernelIdeal.Value.pt7Of (ix3 b s e) < cfg0.N := by
    rw [hpt, show cfg0.N = 32 from N_0]; omega
  refine (dif_pos hlt).trans ?_
  rw [← Cert.KernelIdeal.Value.outsAt0_sweep mm c _ hlt]
  have hloc : Cert.KernelIdeal.Value.loc7Of (ix3 b s e) = ix3 0 ⟨s.val % 1024, by omega⟩ e := by
    funext a
    refine Fin.ext ?_
    match a with
    | ⟨0, _⟩ => show b.val % 1 = 0; omega
    | ⟨1, _⟩ => rfl
    | ⟨2, _⟩ => show e.val % 1024 = e.val; omega
  rw [hloc]
  refine (point mm c ⟨_, hlt⟩ _ e).trans ?_
  have hb : sq ⟨Cert.KernelIdeal.Value.pt7Of (ix3 b s e), hlt⟩ = b :=
    Fin.ext (by show Cert.KernelIdeal.Value.pt7Of (ix3 b s e) / 2 = _; rw [hpt]; omega)
  have hs : at' ⟨Cert.KernelIdeal.Value.pt7Of (ix3 b s e), hlt⟩ ⟨s.val % 1024, by omega⟩ = s :=
    Fin.ext (by
      show 1024 * (Cert.KernelIdeal.Value.pt7Of (ix3 b s e) % 2) + s.val % 1024 = _
      rw [hpt]; omega)
  rw [hb, hs]

end Cert.KernelIdeal.Tile
-- ==== Proof.RefOps.lean ====
/-
  The reference's operations at an index: the linear maps before the loop, the row of an array a trip reads, the row it
  writes, and the result after the loop.
-/
module

public import proofs.«01_k».proof.Proof.Spec
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Loop

open Cert.ReferenceIdeal Cert.ReferenceIdeal.Gen Idealize.ShloMosaic Cert.Spec

/-- A linear map of the input, as the reference computes it: a matrix product and a bias over every sequence and step. -/
def rlin (x : Bx 16 2048 1024) (W : Mt 1024 32) (d : Vc 32) : Bx 16 2048 32 :=
  addf (F := Ideal) (φ := .f32) (Host.dotGeneral (F := Ideal) (φ₁ := .f32) (φ₂ := .f32) dot_S16x2048x1024_S1024x32_S16x2048x32_2_0_01_1_n_n none x W)
    (broadcastInDim S16x2048x32 ![0, 1, 2] bcast_S1x1x32_S16x2048x32_0_1_2
      (broadcastInDim S1x1x32 ![2] bcast_S32_S1x1x32_2 d))

/-- It is the linear map. -/
theorem rlin_apply (x : Bx 16 2048 1024) (W : Mt 1024 32) (d : Vc 32) (b : Fin 16) (s : Fin 2048) (m : Fin 32) :
    rlin x W d (ix3 b s m) = lin x W d b s m := by
  pointwise [rlin, lin]

/-- A row of an array by step: the row at the counter. -/
theorem row_apply (X : Bx 2048 16 32) (st : Fin 3 → Int) (k : Fin 2048) (h0 : st 0 = (k.val : Int)) (h1 : st 1 = 0)
    (h2 : st 2 = 0) (b : Fin 16) (m : Fin 32) :
    shapeCast S16x32 (Host.dynamicSlice S1x16x32 X st sliceFits_S2048x16x32_S1x16x32) shapeCasts_S1x16x32_S16x32
      (ix2 b m) = X (ix3 k b m) := by
  have hk : S2048x16x32.Slices ![k.val, 0, 0] S1x16x32 := ⟨rfl, fun a => by
    match a with
    | ⟨0, _⟩ => show k.val + 1 ≤ 2048; omega
    | ⟨1, _⟩ => show 0 + 16 ≤ 16; omega
    | ⟨2, _⟩ => show 0 + 32 ≤ 32; omega⟩
  rw [WordCmp.dynamicSlice_eq_extract S1x16x32 X st sliceFits_S2048x16x32_S1x16x32 ![k.val, 0, 0] hk (fun a => by
    match a with
    | ⟨0, _⟩ => exact h0
    | ⟨1, _⟩ => exact h1
    | ⟨2, _⟩ => exact h2)]
  pointwise []

/-- Writing a row of an array by step: the row at the counter is the new one, every other row as before. -/
theorem setRow_apply (Y : Bx 2048 16 32) (U : Mt 16 32) (st : Fin 3 → Int) (k : Fin 2048) (h0 : st 0 = (k.val : Int))
    (h1 : st 1 = 0) (h2 : st 2 = 0) (s : Fin 2048) (b : Fin 16) (m : Fin 32) :
    Host.dynamicUpdateSlice Y (broadcastInDim S1x16x32 ![1, 2] bcast_S16x32_S1x16x32_1_2 U) st
      updateFits_S2048x16x32_S1x16x32 (ix3 s b m) = if s = k then U (ix2 b m) else Y (ix3 s b m) := by
  have hk : S2048x16x32.Slices ![k.val, 0, 0] S1x16x32 := ⟨rfl, fun a => by
    match a with
    | ⟨0, _⟩ => show k.val + 1 ≤ 2048; omega
    | ⟨1, _⟩ => show 0 + 16 ≤ 16; omega
    | ⟨2, _⟩ => show 0 + 32 ≤ 32; omega⟩
  rw [WordCmp.dynamicUpdateSlice_eq_update Y _ st updateFits_S2048x16x32_S1x16x32 ![k.val, 0, 0] hk (fun a => by
    match a with
    | ⟨0, _⟩ => exact h0
    | ⟨1, _⟩ => exact h1
    | ⟨2, _⟩ => exact h2)]
  by_cases h : s = k
  · subst h
    rw [if_pos rfl]
    refine (dif_pos fun a => ?_).trans ?_
    · match a with
      | ⟨0, _⟩ => exact ⟨le_refl s.val, Nat.lt_succ_self s.val⟩
      | ⟨1, _⟩ => exact ⟨Nat.zero_le _, by show b.val < 0 + 16; omega⟩
      | ⟨2, _⟩ => exact ⟨Nat.zero_le _, by show m.val < 0 + 32; omega⟩
    · pointwise []
  · rw [if_neg h]
    exact dif_neg fun hin => h (Fin.ext (by
      have h3 := hin (0 : Fin 3)
      have h4 : k.val ≤ s.val := h3.1
      have h5 : s.val < k.val + 1 := h3.2
      omega))

/-- The result after the loop, from the read memory by step. -/
def rout (x : Bx 16 2048 1024) (Wp : Mt 32 1024) (bp : Vc 1024) (Wo : Mt 2048 1024) (bo : Vc 1024) (R : Bx 2048 16 32) :
    Bx 16 2048 1024 :=
  Host.tanh (F := Ideal) (φ := .f32) (addf (F := Ideal) (φ := .f32) (addf (F := Ideal) (φ := .f32)
    (Host.dotGeneral (F := Ideal) (φ₁ := .f32) (φ₂ := .f32) dot_S16x2048x1024_S1024x1024_S16x2048x1024_2_0_01_1_n_n none x
      (extractStridedSlice S1024x1024 ![0, 0] Wo slices_S2048x1024_S1024x1024_0_0))
    (Host.dotGeneral (F := Ideal) (φ₁ := .f32) (φ₂ := .f32) dot_S16x2048x1024_S1024x1024_S16x2048x1024_2_0_01_1_n_n none
      (addf (F := Ideal) (φ := .f32) (transpose S16x2048x1024 [2, 1, 0]
          (Host.dotGeneral (F := Ideal) (φ₁ := .f32) (φ₂ := .f32) dot_S32x1024_S2048x16x32_S1024x2048x16_0_2_1_01_n_n none Wp R)
          transposes_S1024x2048x16_S16x2048x1024_2_1_0)
        (broadcastInDim S16x2048x1024 ![0, 1, 2] bcast_S1x1x1024_S16x2048x1024_0_1_2
          (broadcastInDim S1x1x1024 ![2] bcast_S1024_S1x1x1024_2 bp)))
      (extractStridedSlice S1024x1024 ![1024, 0] Wo slices_S2048x1024_S1024x1024_1024_0)))
    (broadcastInDim S16x2048x1024 ![0, 1, 2] bcast_S1x1x1024_S16x2048x1024_0_1_2
      (broadcastInDim S1x1x1024 ![2] bcast_S1024_S1x1x1024_2 bo)))

/-- It is the reference's expression, of a read memory that holds `r`. -/
theorem rout_apply (x : Bx 16 2048 1024) (Wp : Mt 32 1024) (bp : Vc 1024) (Wo : Mt 2048 1024) (bo : Vc 1024)
    (R : Bx 2048 16 32) (r : Fin 16 → Fin 2048 → Fin 32 → EReal) (hR : ∀ s b m, R (ix3 s b m) = r b s m)
    (b : Fin 16) (s : Fin 2048) (e : Fin 1024) :
    rout x Wp bp Wo bo R (ix3 b s e) = Ideal.tanh (refOut x Wp bp Wo bo r b s e) := by
  unfold refOut direct low
  simp only [← hR]
  pointwise [rout]

end Cert.ReferenceIdeal.Loop
-- ==== Proof.RefLoop.lean ====
/-
  What the reference computes: the loop's entry, the loop's state after any number of trips, and the result after it.
-/
module

public import proofs.«01_k».proof.Proof.RefOps

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe
open Idealize.ShloMosaic.StableHlo Idealize.SL.Sem Cert.Spec Cert.Scan

variable (m : (ℓ : Loc nD τ sig) → Buf (Elt Ideal) ℓ) (c : Dev nD)

/-! ## The reference's arguments, named -/

/-- The input; the read gate's, write gate's and linear map's weights and biases; the projection's and the last
    weight's and biases. -/
abbrev bX : Bx 16 2048 1024 := m (c.tc.loc main_arg0)
abbrev bWr : Mt 1024 32 := m (c.tc.loc main_arg1)
abbrev bbr : Vc 32 := m (c.tc.loc main_arg2)
abbrev bWw : Mt 1024 32 := m (c.tc.loc main_arg3)
abbrev bbw : Vc 32 := m (c.tc.loc main_arg4)
abbrev bWt : Mt 1024 32 := m (c.tc.loc main_arg5)
abbrev bbt : Vc 32 := m (c.tc.loc main_arg6)
abbrev bWp : Mt 32 1024 := m (c.tc.loc main_arg7)
abbrev bbp : Vc 1024 := m (c.tc.loc main_arg8)
abbrev bWo : Mt 2048 1024 := m (c.tc.loc main_arg9)
abbrev bbo : Vc 1024 := m (c.tc.loc main_arg10)

/-! ## The loop's state, at an index -/

/-- The read gate by step, the write gate, the written values, the counter, the memory and the read memory, of any
    contents. -/
def gR (V0 : Valuation τ sig (Elt Ideal)) : Bx 2048 16 32 := V0 (Proc.devRef .tc main_v29_0)
def gW (V0 : Valuation τ sig (Elt Ideal)) : Bx 2048 16 32 := V0 (Proc.devRef .tc main_v29_1)
def nV (V0 : Valuation τ sig (Elt Ideal)) : Bx 2048 16 32 := V0 (Proc.devRef .tc main_v29_2)
def ct (V0 : Valuation τ sig (Elt Ideal)) : IVec S_ 32 := V0 (Proc.devRef .tc main_v29_3)
def mem' (V0 : Valuation τ sig (Elt Ideal)) : Mt 16 32 := V0 (Proc.devRef .tc main_v29_4)
def red (V0 : Valuation τ sig (Elt Ideal)) : Bx 2048 16 32 := V0 (Proc.devRef .tc main_v29_5)

/-- Where a trip reads and writes: the counter's row, from the first sequence and cell. -/
def st (V0 : Valuation τ sig (Elt Ideal)) : Fin 3 → Int := fun k =>
  ((![ct V0, constantI S_ 32 0#32, constantI S_ 32 0#32] : Fin 3 → IVec S_ 32) k (Shape.Idx.first h_S_)).toInt

/-- A counter below 2048 is its own row. -/
theorem st_eq (V0 : Valuation τ sig (Elt Ideal)) (k : Fin 2048) (h : ct V0 = fun _ => BitVec.ofNat 32 k.val) :
    st V0 0 = (k.val : Int) ∧ st V0 1 = 0 ∧ st V0 2 = 0 := by
  refine ⟨?_, rfl, rfl⟩
  show (ct V0 _).toInt = _
  rw [h]
  have := k.isLt
  show (BitVec.ofNat 32 k.val).toInt = _
  rw [BitVec.toInt_ofNat']
  exact Int.bmod_eq_of_le (by omega) (by omega)

/-- One trip leaves the gates and the written values. -/
theorem gR_step (V0 : Valuation τ sig (Elt Ideal)) : gR (STEP V0) = gR V0 := STEP_main_v29_0 V0
theorem gW_step (V0 : Valuation τ sig (Elt Ideal)) : gW (STEP V0) = gW V0 := STEP_main_v29_1 V0
theorem nV_step (V0 : Valuation τ sig (Elt Ideal)) : nV (STEP V0) = nV V0 := STEP_main_v29_2 V0

/-- One trip counts one. -/
theorem ct_step (V0 : Valuation τ sig (Elt Ideal)) (k : ℕ) (h : ct V0 = fun _ => BitVec.ofNat 32 k) :
    ct (STEP V0) = fun _ => BitVec.ofNat 32 (k + 1) := by
  have e : ct (STEP V0) = addi (ct V0) (constantI S_ 32 1#32) := STEP_main_v29_3 V0
  rw [e, h]
  funext i
  show BitVec.ofNat 32 k + 1#32 = _
  rw [BitVec.ofNat_add]

/-- The row of a carried array at the trip's counter. -/
def rowOf (X : Bx 2048 16 32) (V0 : Valuation τ sig (Elt Ideal)) : Mt 16 32 :=
  shapeCast S16x32 (Host.dynamicSlice S1x16x32 X (st V0) sliceFits_S2048x16x32_S1x16x32) shapeCasts_S1x16x32_S16x32

/-- One trip's memory: what the write gate keeps of it, and what it writes. -/
theorem mem_step (V0 : Valuation τ sig (Elt Ideal)) (k : Fin 2048) (h : ct V0 = fun _ => BitVec.ofNat 32 k.val)
    (b : Fin 16) (j : Fin 32) :
    mem' (STEP V0) (ix2 b j)
      = (1 - gW V0 (ix3 k b j)) * mem' V0 (ix2 b j) + gW V0 (ix3 k b j) * nV V0 (ix3 k b j) := by
  have e : mem' (STEP V0) = addf (F := Ideal) (φ := .f32)
      (mulf (subf (broadcastInDim S16x32 ![] bcast_S_S16x32 (constant S_ .f32 0x3F800000#32)) (rowOf (gW V0) V0))
        (mem' V0)) (mulf (rowOf (gW V0) V0) (rowOf (nV V0) V0)) := STEP_main_v29_4 V0
  obtain ⟨h0, h1, h2⟩ := st_eq V0 k h
  have r1 : rowOf (gW V0) V0 (ix2 b j) = gW V0 (ix3 k b j) := row_apply _ _ k h0 h1 h2 b j
  have r2 : rowOf (nV V0) V0 (ix2 b j) = nV V0 (ix3 k b j) := row_apply _ _ k h0 h1 h2 b j
  rw [e, ← r1, ← r2]
  show (Ideal.ofBits .f32 0x3F800000#32 - _) * _ + _ * _ = _
  rw [Ideal.ofBits_one_f32]

/-- One trip's read memory: the counter's row is the read gate times the memory before the trip. -/
theorem red_step (V0 : Valuation τ sig (Elt Ideal)) (k : Fin 2048) (h : ct V0 = fun _ => BitVec.ofNat 32 k.val)
    (s : Fin 2048) (b : Fin 16) (j : Fin 32) :
    red (STEP V0) (ix3 s b j) = if s = k then gR V0 (ix3 k b j) * mem' V0 (ix2 b j) else red V0 (ix3 s b j) := by
  have e : red (STEP V0) = Host.dynamicUpdateSlice (red V0) (broadcastInDim S1x16x32 ![1, 2] bcast_S16x32_S1x16x32_1_2
      (mulf (F := Ideal) (φ := .f32) (rowOf (gR V0) V0) (mem' V0))) (st V0) updateFits_S2048x16x32_S1x16x32 :=
    STEP_main_v29_5 V0
  obtain ⟨h0, h1, h2⟩ := st_eq V0 k h
  have r1 : rowOf (gR V0) V0 (ix2 b j) = gR V0 (ix3 k b j) := row_apply _ _ k h0 h1 h2 b j
  rw [e, setRow_apply _ _ _ k h0 h1 h2, ← r1]
  rfl

/-! ## The loop's entry -/

/-- The contents the loop starts from. -/
abbrev ent : Valuation τ sig (Elt Ideal) := entryContents preI m c

/-- A gate by step, as the reference computes it. -/
def rgate (x : Bx 16 2048 1024) (W : Mt 1024 32) (d : Vc 32) : Bx 2048 16 32 :=
  transpose S2048x16x32 [1, 0, 2]
    (Host.divf (F := Ideal) (φ := .f32) (broadcastInDim S16x2048x32 ![] bcast_S_S16x2048x32 (constant S_ .f32 0x3F800000#32))
      (addf (broadcastInDim S16x2048x32 ![] bcast_S_S16x2048x32 (constant S_ .f32 0x3F800000#32))
        (Host.exp (Host.negf (rlin x W d))))) transposes_S16x2048x32_S2048x16x32_1_0_2

/-- It is the gate. -/
theorem rgate_apply (x : Bx 16 2048 1024) (W : Mt 1024 32) (d : Vc 32) (s : Fin 2048) (b : Fin 16) (j : Fin 32) :
    rgate x W d (ix3 s b j) = gate x W d b s j := by
  have e : rgate x W d (ix3 s b j) = Ideal.div (Ideal.ofBits .f32 0x3F800000#32)
      (Ideal.ofBits .f32 0x3F800000#32 + Ideal.exp (-(rlin x W d (ix3 b s j)))) := by
    pointwise [rgate]
  rw [e, Ideal.ofBits_one_f32, rlin_apply]
  rfl

set_option maxHeartbeats 1000000 in
/-- The read gate at the loop's entry. -/
theorem gR_entry : gR (ent m c) = rgate (bX m c) (bWr m c) (bbr m c) := by
  unfold gR ent
  simp only [entryContents, afterL_cons, afterL_nil]
  after_reads_simp
  rfl

set_option maxHeartbeats 1000000 in
/-- The write gate at the loop's entry. -/
theorem gW_entry : gW (ent m c) = rgate (bX m c) (bWw m c) (bbw m c) := by
  unfold gW ent
  simp only [entryContents, afterL_cons, afterL_nil]
  after_reads_simp
  rfl

set_option maxHeartbeats 1000000 in
/-- The written values at the loop's entry. -/
theorem nV_entry : nV (ent m c)
    = transpose S2048x16x32 [1, 0, 2] (rlin (bX m c) (bWt m c) (bbt m c)) transposes_S16x2048x32_S2048x16x32_1_0_2 := by
  unfold nV ent
  simp only [entryContents, afterL_cons, afterL_nil]
  after_reads_simp
  rfl

/-- The written values at an index are the linear map. -/
theorem nV_entry_apply (s : Fin 2048) (b : Fin 16) (j : Fin 32) :
    nV (ent m c) (ix3 s b j) = lin (bX m c) (bWt m c) (bbt m c) b s j := by
  rw [nV_entry, ← rlin_apply]
  pointwise []

/-- The memory is zero at the loop's entry. -/
theorem mem_entry (b : Fin 16) (j : Fin 32) : mem' (ent m c) (ix2 b j) = 0 := by
  have e : mem' (ent m c) = broadcastInDim S16x32 ![] bcast_S_S16x32 (constant (F := Ideal) S_ .f32 0x00000000#32) := by
    unfold mem' ent
    simp only [entryContents, afterL_cons, afterL_nil]
    after_reads_simp
    rfl
  rw [e]
  exact Ideal.ofBits_zero_f32

/-! ## The loop's state after any number of trips -/

/-- The memory before step `k` and the read memory at it, over the reference's arguments. -/
abbrev bMem (b : Fin 16) (j : Fin 32) (k : ℕ) : EReal :=
  Spec.mem (bX m c) (bWw m c) (bbw m c) (bWt m c) (bbt m c) b j k
abbrev bRd : Fin 16 → Fin 2048 → Fin 32 → EReal :=
  rd (bX m c) (bWr m c) (bbr m c) (bWw m c) (bbw m c) (bWt m c) (bbt m c)

/-- The memory's recurrence. -/
theorem bMem_succ (b : Fin 16) (j : Fin 32) (k : Fin 2048) :
    bMem m c b j (k.val + 1) = (1 - gate (bX m c) (bWw m c) (bbw m c) b k j) * bMem m c b j k.val
      + gate (bX m c) (bWw m c) (bbw m c) b k j * lin (bX m c) (bWt m c) (bbt m c) b k j := by
  have hk : keep (bX m c) (bWw m c) (bbw m c) b j k.val = 1 - gate (bX m c) (bWw m c) (bbw m c) b k j := dif_pos k.isLt
  have hp : put (bX m c) (bWw m c) (bbw m c) (bWt m c) (bbt m c) b j k.val
      = gate (bX m c) (bWw m c) (bbw m c) b k j * lin (bX m c) (bWt m c) (bbt m c) b k j := dif_pos k.isLt
  rw [← hk, ← hp]
  show keep _ _ _ _ _ (0 + k.val) * _ + put _ _ _ _ _ _ _ (0 + k.val) = _
  rw [Nat.zero_add]
  rfl

/-- After `k` trips: the gates and written values as at the entry, the counter at `k`, the memory before step `k`, and
    the read memory of every step before it. -/
theorem state (k : ℕ) (hk : k ≤ 2048) :
    gR (STEP^[k] (ent m c)) = gR (ent m c) ∧ gW (STEP^[k] (ent m c)) = gW (ent m c)
      ∧ nV (STEP^[k] (ent m c)) = nV (ent m c) ∧ ct (STEP^[k] (ent m c)) = (fun _ => BitVec.ofNat 32 k)
      ∧ (∀ b j, mem' (STEP^[k] (ent m c)) (ix2 b j) = bMem m c b j k)
      ∧ (∀ (s : Fin 2048) b j, s.val < k → red (STEP^[k] (ent m c)) (ix3 s b j) = bRd m c b s j) := by
  induction k with
  | zero => exact ⟨rfl, rfl, rfl, ctr_entry m c, fun b j => mem_entry m c b j, fun s b j h => absurd h (Nat.not_lt_zero _)⟩
  | succ k ih =>
    obtain ⟨i0, i1, i2, i3, i4, i5⟩ := ih (by omega)
    rw [Function.iterate_succ_apply']
    generalize STEP^[k] (ent m c) = V at i0 i1 i2 i3 i4 i5
    have hc : ct V = fun _ => BitVec.ofNat 32 (⟨k, by omega⟩ : Fin 2048).val := i3
    refine ⟨(gR_step V).trans i0, (gW_step V).trans i1, (nV_step V).trans i2, ct_step V k i3, fun b j => ?_,
      fun s b j hs => ?_⟩
    · rw [mem_step V ⟨k, by omega⟩ hc, i1, i2, i4, gW_entry, rgate_apply, nV_entry_apply]
      exact (bMem_succ m c b j ⟨k, by omega⟩).symm
    · rw [red_step V ⟨k, by omega⟩ hc]
      by_cases h : s = ⟨k, by omega⟩
      · rw [if_pos h, i0, i4, gR_entry, rgate_apply, h]
        rfl
      · rw [if_neg h]
        exact i5 s b j (by
          have : s.val ≠ k := fun e => h (Fin.ext e)
          omega)

/-! ## The result -/

/-- The reference's result at every sequence, step and column. -/
theorem result_apply (b : Fin 16) (s : Fin 2048) (e : Fin 1024) :
    (out_main_v43 (STEP^[2048] (ent m c)) : Bx 16 2048 1024) (ix3 b s e)
      = Ideal.tanh (refOut (bX m c) (bWp m c) (bbp m c) (bWo m c) (bbo m c) (bRd m c) b s e) := by
  have h0 := iter_main_arg0 m c 2048
  have h7 := iter_main_arg7 m c 2048
  have h8 := iter_main_arg8 m c 2048
  have h9 := iter_main_arg9 m c 2048
  have h10 := iter_main_arg10 m c 2048
  obtain ⟨-, -, -, -, -, hr⟩ := state m c 2048 le_rfl
  have e1 : (out_main_v43 (STEP^[2048] (ent m c)) : Bx 16 2048 1024)
      = rout (bX m c) (bWp m c) (bbp m c) (bWo m c) (bbo m c) (red (STEP^[2048] (ent m c))) := by
    unfold out_main_v43
    rw [h0, h7, h8, h9, h10]
    rfl
  rw [e1]
  exact rout_apply _ _ _ _ _ _ _ (fun s b j => hr s b j s.isLt) b s e

end Cert.ReferenceIdeal.Loop
-- ==== Proof.Precond.lean ====
/-
  The precondition read as a fact: the input, the written values' weights and bias, the projection and the lower half of
  the last weight hold real numbers.
-/
module

public import proofs.«01_k».proof.Proof.Spec
public import proofs.«01_k».proof.Pre_finite
public import Idealize.ShloMosaic.Lib.ReduceAll
public import Idealize.ShloMosaic.Lib.Pointwise

@[expose] public section

set_option maxRecDepth 16384

noncomputable section

namespace Cert.Precond

open Cert.Pre_finite Idealize.ShloMosaic Cert.Spec

/-- A bit and a bit are 1 only when both are. -/
theorem and_one : ∀ a b : BitVec 1, IntOp.andi a b = 1#1 → a = 1#1 ∧ b = 1#1 := by decide

/-- A number whose absolute value is below infinity is real. -/
theorem real_of_abs_lt (z : EReal) (h : max z (-z) < ⊤) : ∃ r : ℝ, z = r := by
  induction z with
  | bot => simp at h
  | coe r => exact ⟨r, rfl⟩
  | top => simp at h

/-- The test of one number. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  have hi : Ideal.ofBits .f32 0x7F800000#32 = ⊤ := by simp [Ideal.ofBits, Ideal.ieee]
  have h' : BitVec.ofBool (decide (max (x i) (-(x i)) < Ideal.ofBits .f32 0x7F800000#32)) = 1#1 := h
  rw [hi] at h'
  refine real_of_abs_lt (x i) ?_
  by_contra hn
  rw [decide_eq_false hn] at h'
  exact absurd h' (by decide)

/-- The test of an array. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : ∃ r : ℝ, x i = (r : EReal) :=
  haveI : Subsingleton S_.Idx := ⟨fun a b => funext fun k => k.elim0⟩
  real_of_test x hb i (Host.reduce_andi_all _ _ hr hu j h i)

variable [Facts]

/-- The precondition, read. -/
theorem finite_real (x : Bx 16 2048 1024) (Wr : Mt 1024 32) (br : Vc 32) (Ww : Mt 1024 32) (bw : Vc 32) (Wt : Mt 1024 32)
    (bt : Vc 32) (Wp : Mt 32 1024) (bp : Vc 1024) (Wo : Mt 2048 1024) (bo : Vc 1024)
    (h : fn (F := Ideal) x Wr br Ww bw Wt bt Wp bp Wo bo = fun _ => 1#1) :
    (∀ i, ∃ r : ℝ, x i = r) ∧ (∀ i, ∃ r : ℝ, Wt i = r) ∧ (∀ i, ∃ r : ℝ, bt i = r) ∧ (∀ i, ∃ r : ℝ, Wp i = r)
      ∧ (∀ j e, ∃ r : ℝ, low Wo j e = r) := by
  have key := congrFun h (fun k => k.elim0)
  unfold fn fn_part1 at key
  dsimp only at key
  obtain ⟨k4, h5⟩ := and_one _ _ key
  obtain ⟨k3, h4⟩ := and_one _ _ k4
  obtain ⟨k2, h3⟩ := and_one _ _ k3
  obtain ⟨h1, h2⟩ := and_one _ _ k2
  refine ⟨real_of_all x _ _ _ _ h1, real_of_all Wt _ _ _ _ h2, real_of_all bt _ _ _ _ h3, real_of_all Wp _ _ _ _ h4,
    fun j e => ?_⟩
  obtain ⟨r, hr⟩ := real_of_all _ _ _ _ _ h5 (ix2 j e)
  refine ⟨r, Eq.trans ?_ hr⟩
  unfold low
  pointwise []

end Cert.Precond
-- ==== Proof.Value.lean ====
/-
  The two results are equal: on memories that agree on the arguments, the array the launch leaves is the reference's.
-/
module

public import proofs.«01_k».proof.Proof.Array
public import proofs.«01_k».proof.Proof.RefLoop
public import proofs.«01_k».proof.Proof.Precond
public import proofs.«01_k».proof.Proof.Equation

@[expose] public section

set_option maxRecDepth 16384

noncomputable section

namespace Cert.Equal

open Idealize.ShloMosaic Idealize.ShloMosaic.TcCoe Idealize.SL.Sem Cert.Spec
open Cert.KernelIdeal.Tile Cert.ReferenceIdeal.Loop

/-- The launch's array is the reference's result. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hx : ∀ i, ∃ r : ℝ, aX m c i = r) (hW : ∀ i, ∃ r : ℝ, aWt m c i = r) (hd : ∀ i, ∃ r : ℝ, abt m c i = r)
    (hp : ∀ i, ∃ r : ℝ, aWp m c i = r) (hw : ∀ j e, ∃ r : ℝ, low (aWo m c) j e = r)
    (e0 : bX m' c = aX m c) (e1 : bWr m' c = aWr m c) (e2 : bbr m' c = abr m c) (e3 : bWw m' c = aWw m c)
    (e4 : bbw m' c = abw m c) (e5 : bWt m' c = aWt m c) (e6 : bbt m' c = abt m c) (e7 : bWp m' c = aWp m c)
    (e8 : bbp m' c = abp m c) (e9 : bWo m' c = aWo m c) (e10 : bbo m' c = abo m c) :
    (Cert.ReferenceIdeal.Value.out_main_v43 (Cert.ReferenceIdeal.Value.STEP^[2048] (ent m' c)) : Bx 16 2048 1024)
      = Cert.KernelIdeal.Value.G7 m c := by
  funext i
  rw [eq_ix3 i]
  refine (result_apply m' c (i 0) (i 1) (i 2)).trans (Eq.trans ?_ (array_apply m c (i 0) (i 1) (i 2)).symm)
  unfold aOut bRd
  rw [e0, e1, e2, e3, e4, e5, e6, e7, e8, e9, e10]
  exact congrArg Ideal.tanh (kerOut_eq_refOut _ _ _ (rd_real hx hW hd _ _ _ _) hp hw (i 0) (i 1) (i 2)).symm

end Cert.Equal
-- ==== Proof.lean ====
/-
  The claims: the three programs run and leave their arguments as they were; the kernel is its own idealization; and on
  the precondition the idealized kernel's result is the reference's (`Proof/Value.lean`).
-/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments, and has no semaphore to leave raised. -/
theorem quiet_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does on the precondition. -/
theorem quiet_reference_pre : quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the precondition the idealized kernel's result is the reference's. -/
theorem algebraic : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1]
  obtain ⟨e0, e1, e2, e3, e4, e5, e6, e7, e8, e9, e10⟩ := hagree c
  obtain ⟨hx, hW, hd, hp, hw⟩ := Cert.Precond.finite_real _ _ _ _ _ _ _ _ _ _ _ (hpre c)
  exact Cert.Equal.results_eq m m' c hx hW hd hp hw e0 e1 e2 e3 e4 e5 e6 e7 e8 e9 e10

/-- All the claims together. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  quiet_reference, quiet_reference_pre, (trivial : preserves_Kernel_KernelIdeal), algebraic⟩

end Cert.Proof

end
